-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S4x512x1024 : Shape := ⟨3, ![4, 512, 1024]⟩
abbrev S4 : Shape := ⟨1, ![4]⟩
abbrev S2x3x4 : Shape := ⟨3, ![2, 3, 4]⟩
abbrev S_ : Shape := ⟨0, ![]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S4x512x1024, .bf16⟩
  | .local _ .vmem, ⟨3, _⟩ => ⟨S4x512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v73 : BitVec 32 := Scalar.muli v2 c8_i32_47
  let v74 : BitVec 32 := Scalar.addi c0_i32_48 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v75 : BitVec 32 := Scalar.muli v5 c4_i32_49
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_50 : BitVec 32 := 1#32
  let v77 : BitVec 32 := Scalar.muli v59 c1_i32_50
  let v78 : BitVec 32 := Scalar.addi v76 v77
  v78.toNat
def k0_dev2 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v79 : BitVec 32 := Scalar.muli v2 c8_i32_52
  let v80 : BitVec 32 := Scalar.addi c0_i32_53 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v81 : BitVec 32 := Scalar.muli v5 c4_i32_54
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_55 : BitVec 32 := 1#32
  let v83 : BitVec 32 := Scalar.muli v71 c1_i32_55
  let v84 : BitVec 32 := Scalar.addi v82 v83
  v84.toNat
def k0_dev3 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_57 : BitVec 32 := 8#32
  let v85 : BitVec 32 := Scalar.muli v27 c8_i32_57
  let v86 : BitVec 32 := Scalar.addi c0_i32_58 v85
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_59 : BitVec 32 := 4#32
  let v87 : BitVec 32 := Scalar.muli v31 c4_i32_59
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v89 : BitVec 32 := Scalar.muli v8 c1_i32_60
  let v90 : BitVec 32 := Scalar.addi v88 v89
  v90.toNat
def k0_dev4 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_62 : BitVec 32 := 8#32
  let v91 : BitVec 32 := Scalar.muli v44 c8_i32_62
  let v92 : BitVec 32 := Scalar.addi c0_i32_63 v91
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_64 : BitVec 32 := 4#32
  let v93 : BitVec 32 := Scalar.muli v48 c4_i32_64
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v95 : BitVec 32 := Scalar.muli v8 c1_i32_65
  let v96 : BitVec 32 := Scalar.addi v94 v95
  v96.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v97 : BitVec 1 := Scalar.cmpi .eq v8 c0_i32_67
  let v102 : BitVec 32 := Scalar.extui v97
  let c0_i32_87 : BitVec 32 := 0#32
  let v103 : BitVec 1 := Scalar.cmpi .ne v102 c0_i32_87
  v103

def k0_off1 (d0 : Dev nD) (c0_i32_1861 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let v1990 : BitVec 32 := Scalar.addi v11 c0_i32_1861
  let v1991 : Index := Scalar.indexCast v1990
  let c0 : Index := 0#32
  ![v1991.toNat, 0]
def k0_dev5 (d0 : Dev nD) : Nat :=
  let c0_i32_1866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1865 : BitVec 32 := 8#32
  let v1997 : BitVec 32 := Scalar.muli v2 c8_i32_1865
  let v1998 : BitVec 32 := Scalar.addi c0_i32_1866 v1997
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1867 : BitVec 32 := 4#32
  let v1999 : BitVec 32 := Scalar.muli v5 c4_i32_1867
  let v2000 : BitVec 32 := Scalar.addi v1998 v1999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1868 : BitVec 32 := 1#32
  let v2001 : BitVec 32 := Scalar.muli v59 c1_i32_1868
  let v2002 : BitVec 32 := Scalar.addi v2000 v2001
  v2002.toNat
def k0_dev6 (d0 : Dev nD) : Nat :=
  let c0_i32_1878 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1877 : BitVec 32 := 8#32
  let v2018 : BitVec 32 := Scalar.muli v2 c8_i32_1877
  let v2019 : BitVec 32 := Scalar.addi c0_i32_1878 v2018
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1879 : BitVec 32 := 4#32
  let v2020 : BitVec 32 := Scalar.muli v5 c4_i32_1879
  let v2021 : BitVec 32 := Scalar.addi v2019 v2020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1880 : BitVec 32 := 1#32
  let v2022 : BitVec 32 := Scalar.muli v59 c1_i32_1880
  let v2023 : BitVec 32 := Scalar.addi v2021 v2022
  v2023.toNat
def k0_dev7 (d0 : Dev nD) : Nat :=
  let c0_i32_1890 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1889 : BitVec 32 := 8#32
  let v2039 : BitVec 32 := Scalar.muli v2 c8_i32_1889
  let v2040 : BitVec 32 := Scalar.addi c0_i32_1890 v2039
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1891 : BitVec 32 := 4#32
  let v2041 : BitVec 32 := Scalar.muli v5 c4_i32_1891
  let v2042 : BitVec 32 := Scalar.addi v2040 v2041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1892 : BitVec 32 := 1#32
  let v2043 : BitVec 32 := Scalar.muli v59 c1_i32_1892
  let v2044 : BitVec 32 := Scalar.addi v2042 v2043
  v2044.toNat
def k0_dev8 (d0 : Dev nD) : Nat :=
  let c0_i32_1902 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1901 : BitVec 32 := 8#32
  let v2060 : BitVec 32 := Scalar.muli v2 c8_i32_1901
  let v2061 : BitVec 32 := Scalar.addi c0_i32_1902 v2060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1903 : BitVec 32 := 4#32
  let v2062 : BitVec 32 := Scalar.muli v5 c4_i32_1903
  let v2063 : BitVec 32 := Scalar.addi v2061 v2062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1904 : BitVec 32 := 1#32
  let v2064 : BitVec 32 := Scalar.muli v59 c1_i32_1904
  let v2065 : BitVec 32 := Scalar.addi v2063 v2064
  v2065.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_68 : BitVec 32 := 3#32
  let v98 : BitVec 1 := Scalar.cmpi .eq v8 c3_i32_68
  let v104 : BitVec 32 := Scalar.extui v98
  let c0_i32_104 : BitVec 32 := 0#32
  let v105 : BitVec 1 := Scalar.cmpi .ne v104 c0_i32_104
  v105

def k0_off2 (d0 : Dev nD) (c0_i32_1861 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let v1990 : BitVec 32 := Scalar.addi v11 c0_i32_1861
  let v1991 : Index := Scalar.indexCast v1990
  let c0 : Index := 0#32
  ![v1991.toNat, 0]
def k0_dev9 (d0 : Dev nD) : Nat :=
  let c0_i32_1866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1865 : BitVec 32 := 8#32
  let v1997 : BitVec 32 := Scalar.muli v2 c8_i32_1865
  let v1998 : BitVec 32 := Scalar.addi c0_i32_1866 v1997
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1867 : BitVec 32 := 4#32
  let v1999 : BitVec 32 := Scalar.muli v5 c4_i32_1867
  let v2000 : BitVec 32 := Scalar.addi v1998 v1999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1868 : BitVec 32 := 1#32
  let v2001 : BitVec 32 := Scalar.muli v71 c1_i32_1868
  let v2002 : BitVec 32 := Scalar.addi v2000 v2001
  v2002.toNat
def k0_dev10 (d0 : Dev nD) : Nat :=
  let c0_i32_1878 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1877 : BitVec 32 := 8#32
  let v2018 : BitVec 32 := Scalar.muli v2 c8_i32_1877
  let v2019 : BitVec 32 := Scalar.addi c0_i32_1878 v2018
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1879 : BitVec 32 := 4#32
  let v2020 : BitVec 32 := Scalar.muli v5 c4_i32_1879
  let v2021 : BitVec 32 := Scalar.addi v2019 v2020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1880 : BitVec 32 := 1#32
  let v2022 : BitVec 32 := Scalar.muli v71 c1_i32_1880
  let v2023 : BitVec 32 := Scalar.addi v2021 v2022
  v2023.toNat
def k0_dev11 (d0 : Dev nD) : Nat :=
  let c0_i32_1890 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1889 : BitVec 32 := 8#32
  let v2039 : BitVec 32 := Scalar.muli v2 c8_i32_1889
  let v2040 : BitVec 32 := Scalar.addi c0_i32_1890 v2039
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1891 : BitVec 32 := 4#32
  let v2041 : BitVec 32 := Scalar.muli v5 c4_i32_1891
  let v2042 : BitVec 32 := Scalar.addi v2040 v2041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1892 : BitVec 32 := 1#32
  let v2043 : BitVec 32 := Scalar.muli v71 c1_i32_1892
  let v2044 : BitVec 32 := Scalar.addi v2042 v2043
  v2044.toNat
def k0_dev12 (d0 : Dev nD) : Nat :=
  let c0_i32_1902 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1901 : BitVec 32 := 8#32
  let v2060 : BitVec 32 := Scalar.muli v2 c8_i32_1901
  let v2061 : BitVec 32 := Scalar.addi c0_i32_1902 v2060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1903 : BitVec 32 := 4#32
  let v2062 : BitVec 32 := Scalar.muli v5 c4_i32_1903
  let v2063 : BitVec 32 := Scalar.addi v2061 v2062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1904 : BitVec 32 := 1#32
  let v2064 : BitVec 32 := Scalar.muli v71 c1_i32_1904
  let v2065 : BitVec 32 := Scalar.addi v2063 v2064
  v2065.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_105 : BitVec 32 := 0#32
  let v106 : BitVec 1 := Scalar.cmpi .sgt v8 c0_i32_105
  let v107 : BitVec 32 := Scalar.extui v106
  let c0_i32_110 : BitVec 32 := 0#32
  let v108 : BitVec 1 := Scalar.cmpi .ne v107 c0_i32_110
  v108

def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1871 : BitVec 32 := 0#32
  let v2004 : BitVec 32 := Scalar.addi v11 c0_i32_1871
  let v2005 : Index := Scalar.indexCast v2004
  let c0_1872 : Index := 0#32
  ![v2005.toNat, 0]
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v109 : BitVec 32 := Scalar.extui v101
  let c0_i32_115 : BitVec 32 := 0#32
  let v110 : BitVec 1 := Scalar.cmpi .ne v109 c0_i32_115
  v110

def k0_dev13 (d0 : Dev nD) : Nat :=
  let c0_i32_1862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1861 : BitVec 32 := 8#32
  let v1990 : BitVec 32 := Scalar.muli v2 c8_i32_1861
  let v1991 : BitVec 32 := Scalar.addi c0_i32_1862 v1990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1863 : BitVec 32 := 4#32
  let v1992 : BitVec 32 := Scalar.muli v5 c4_i32_1863
  let v1993 : BitVec 32 := Scalar.addi v1991 v1992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1864 : BitVec 32 := 1#32
  let v1994 : BitVec 32 := Scalar.muli v59 c1_i32_1864
  let v1995 : BitVec 32 := Scalar.addi v1993 v1994
  v1995.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_116 : BitVec 32 := 3#32
  let v111 : BitVec 1 := Scalar.cmpi .slt v8 c3_i32_116
  let v112 : BitVec 32 := Scalar.extui v111
  let c0_i32_121 : BitVec 32 := 0#32
  let v113 : BitVec 1 := Scalar.cmpi .ne v112 c0_i32_121
  v113

def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1870 : BitVec 32 := 1024#32
  let v2004 : BitVec 32 := Scalar.addi v11 c1024_i32_1870
  let v2005 : Index := Scalar.indexCast v2004
  let c0_1871 : Index := 0#32
  ![v2005.toNat, 0]
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v114 : BitVec 32 := Scalar.extui v101
  let c0_i32_126 : BitVec 32 := 0#32
  let v115 : BitVec 1 := Scalar.cmpi .ne v114 c0_i32_126
  v115

def k0_dev14 (d0 : Dev nD) : Nat :=
  let c0_i32_1862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1861 : BitVec 32 := 8#32
  let v1990 : BitVec 32 := Scalar.muli v2 c8_i32_1861
  let v1991 : BitVec 32 := Scalar.addi c0_i32_1862 v1990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1863 : BitVec 32 := 4#32
  let v1992 : BitVec 32 := Scalar.muli v5 c4_i32_1863
  let v1993 : BitVec 32 := Scalar.addi v1991 v1992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1864 : BitVec 32 := 1#32
  let v1994 : BitVec 32 := Scalar.muli v71 c1_i32_1864
  let v1995 : BitVec 32 := Scalar.addi v1993 v1994
  v1995.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_127 : BitVec 32 := 0#32
  let v116 : BitVec 1 := Scalar.cmpi .sgt v8 c0_i32_127
  let v117 : BitVec 32 := Scalar.extui v116
  let c0_i32_132 : BitVec 32 := 0#32
  let v118 : BitVec 1 := Scalar.cmpi .ne v117 c0_i32_132
  v118

def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1870 : BitVec 32 := 512#32
  let v2004 : BitVec 32 := Scalar.addi v11 c512_i32_1870
  let v2005 : Index := Scalar.indexCast v2004
  let c0_1871 : Index := 0#32
  ![v2005.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v119 : BitVec 32 := Scalar.extui v101
  let c0_i32_137 : BitVec 32 := 0#32
  let v120 : BitVec 1 := Scalar.cmpi .ne v119 c0_i32_137
  v120

def k0_dev15 (d0 : Dev nD) : Nat :=
  let c0_i32_1862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1861 : BitVec 32 := 8#32
  let v1990 : BitVec 32 := Scalar.muli v2 c8_i32_1861
  let v1991 : BitVec 32 := Scalar.addi c0_i32_1862 v1990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1863 : BitVec 32 := 4#32
  let v1992 : BitVec 32 := Scalar.muli v5 c4_i32_1863
  let v1993 : BitVec 32 := Scalar.addi v1991 v1992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1864 : BitVec 32 := 1#32
  let v1994 : BitVec 32 := Scalar.muli v59 c1_i32_1864
  let v1995 : BitVec 32 := Scalar.addi v1993 v1994
  v1995.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_138 : BitVec 32 := 3#32
  let v121 : BitVec 1 := Scalar.cmpi .slt v8 c3_i32_138
  let v122 : BitVec 32 := Scalar.extui v121
  let c0_i32_143 : BitVec 32 := 0#32
  let v123 : BitVec 1 := Scalar.cmpi .ne v122 c0_i32_143
  v123

def k0_off6 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1870 : BitVec 32 := 1536#32
  let v2004 : BitVec 32 := Scalar.addi v11 c1536_i32_1870
  let v2005 : Index := Scalar.indexCast v2004
  let c0_1871 : Index := 0#32
  ![v2005.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v124 : BitVec 32 := Scalar.extui v101
  let c0_i32_148 : BitVec 32 := 0#32
  let v125 : BitVec 1 := Scalar.cmpi .ne v124 c0_i32_148
  v125

def k0_dev16 (d0 : Dev nD) : Nat :=
  let c0_i32_1862 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1861 : BitVec 32 := 8#32
  let v1990 : BitVec 32 := Scalar.muli v2 c8_i32_1861
  let v1991 : BitVec 32 := Scalar.addi c0_i32_1862 v1990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1863 : BitVec 32 := 4#32
  let v1992 : BitVec 32 := Scalar.muli v5 c4_i32_1863
  let v1993 : BitVec 32 := Scalar.addi v1991 v1992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1864 : BitVec 32 := 1#32
  let v1994 : BitVec 32 := Scalar.muli v71 c1_i32_1864
  let v1995 : BitVec 32 := Scalar.addi v1993 v1994
  v1995.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_149 : BitVec 32 := 3#32
  let v126 : BitVec 1 := Scalar.cmpi .slt v8 c3_i32_149
  let v127 : BitVec 32 := Scalar.extui v126
  let c0_i32_154 : BitVec 32 := 0#32
  let v128 : BitVec 1 := Scalar.cmpi .ne v127 c0_i32_154
  v128

def k0_off7 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1874 : BitVec 32 := 0#32
  let v2007 : BitVec 32 := Scalar.addi v11 c0_i32_1874
  let v2008 : Index := Scalar.indexCast v2007
  let c0_1875 : Index := 0#32
  ![v2008.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_68 : BitVec 32 := 3#32
  let v98 : BitVec 1 := Scalar.cmpi .eq v8 c3_i32_68
  let v129 : BitVec 32 := Scalar.extui v98
  let c0_i32_155 : BitVec 32 := 0#32
  let v130 : BitVec 1 := Scalar.cmpi .ne v129 c0_i32_155
  v130

def k0_off8 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1863 : BitVec 32 := 0#32
  let v1992 : BitVec 32 := Scalar.addi v11 c0_i32_1863
  let v1993 : Index := Scalar.indexCast v1992
  let c0_1864 : Index := 0#32
  ![v1993.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v131 : BitVec 32 := Scalar.extui v101
  let c0_i32_160 : BitVec 32 := 0#32
  let v132 : BitVec 1 := Scalar.cmpi .ne v131 c0_i32_160
  v132

def k0_off9 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c0_i32_1863 : BitVec 32 := 0#32
  let v1992 : BitVec 32 := Scalar.addi v11 c0_i32_1863
  let v1993 : Index := Scalar.indexCast v1992
  let c0_1864 : Index := 0#32
  ![v1993.toNat, 0]
def k0_dev17 (d0 : Dev nD) : Nat :=
  let c0_i32_1869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1868 : BitVec 32 := 8#32
  let v2000 : BitVec 32 := Scalar.muli v2 c8_i32_1868
  let v2001 : BitVec 32 := Scalar.addi c0_i32_1869 v2000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1870 : BitVec 32 := 4#32
  let v2002 : BitVec 32 := Scalar.muli v5 c4_i32_1870
  let v2003 : BitVec 32 := Scalar.addi v2001 v2002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1871 : BitVec 32 := 1#32
  let v2004 : BitVec 32 := Scalar.muli v71 c1_i32_1871
  let v2005 : BitVec 32 := Scalar.addi v2003 v2004
  v2005.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_161 : BitVec 32 := 0#32
  let v133 : BitVec 1 := Scalar.cmpi .sgt v8 c0_i32_161
  let v134 : BitVec 32 := Scalar.extui v133
  let c0_i32_166 : BitVec 32 := 0#32
  let v135 : BitVec 1 := Scalar.cmpi .ne v134 c0_i32_166
  v135

def k0_off10 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1873 : BitVec 32 := 1024#32
  let v2007 : BitVec 32 := Scalar.addi v11 c1024_i32_1873
  let v2008 : Index := Scalar.indexCast v2007
  let c0_1874 : Index := 0#32
  ![v2008.toNat, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v97 : BitVec 1 := Scalar.cmpi .eq v8 c0_i32_67
  let v136 : BitVec 32 := Scalar.extui v97
  let c0_i32_167 : BitVec 32 := 0#32
  let v137 : BitVec 1 := Scalar.cmpi .ne v136 c0_i32_167
  v137

def k0_off11 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1862 : BitVec 32 := 1024#32
  let v1992 : BitVec 32 := Scalar.addi v11 c1024_i32_1862
  let v1993 : Index := Scalar.indexCast v1992
  let c0_1863 : Index := 0#32
  ![v1993.toNat, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v138 : BitVec 32 := Scalar.extui v101
  let c0_i32_172 : BitVec 32 := 0#32
  let v139 : BitVec 1 := Scalar.cmpi .ne v138 c0_i32_172
  v139

def k0_off12 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1024_i32_1862 : BitVec 32 := 1024#32
  let v1992 : BitVec 32 := Scalar.addi v11 c1024_i32_1862
  let v1993 : Index := Scalar.indexCast v1992
  let c0_1863 : Index := 0#32
  ![v1993.toNat, 0]
def k0_dev18 (d0 : Dev nD) : Nat :=
  let c0_i32_1868 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1867 : BitVec 32 := 8#32
  let v2000 : BitVec 32 := Scalar.muli v2 c8_i32_1867
  let v2001 : BitVec 32 := Scalar.addi c0_i32_1868 v2000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1869 : BitVec 32 := 4#32
  let v2002 : BitVec 32 := Scalar.muli v5 c4_i32_1869
  let v2003 : BitVec 32 := Scalar.addi v2001 v2002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1870 : BitVec 32 := 1#32
  let v2004 : BitVec 32 := Scalar.muli v59 c1_i32_1870
  let v2005 : BitVec 32 := Scalar.addi v2003 v2004
  v2005.toNat
def k0_off13 (d0 : Dev nD) (c0_i32_174 : BitVec 32) (c0_i32_183 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c4_i32_173 : BitVec 32 := 4#32
  let v140 : BitVec 32 := Scalar.addi v14 c4_i32_173
  let v141 : BitVec 32 := Scalar.subi v140 c0_i32_174
  let c4_i32_175 : BitVec 32 := 4#32
  let c0_i32_176 : BitVec 32 := 0#32
  let v142 : BitVec 1 := Scalar.cmpi .eq c4_i32_175 c0_i32_176
  let c1_i32_177 : BitVec 32 := 1#32
  let v143 : BitVec 32 := Scalar.select v142 c1_i32_177 c4_i32_175
  let v144 : BitVec 32 := Scalar.remsi v141 v143
  let c0_i32_179 : BitVec 32 := 0#32
  let v146 : BitVec 1 := Scalar.cmpi .slt v144 c0_i32_179
  let c0_i32_180 : BitVec 32 := 0#32
  let v147 : BitVec 1 := Scalar.cmpi .slt v143 c0_i32_180
  let v148 : BitVec 1 := Scalar.xori v146 v147
  let c0_i32_178 : BitVec 32 := 0#32
  let v145 : BitVec 1 := Scalar.cmpi .ne v144 c0_i32_178
  let v149 : BitVec 1 := Scalar.andi v148 v145
  let v150 : BitVec 32 := Scalar.addi v144 v143
  let v151 : BitVec 32 := Scalar.select v149 v150 v144
  let c1_i32_181 : BitVec 32 := 1#32
  let v152 : BitVec 32 := Scalar.shrsi v151 c1_i32_181
  let v153 : BitVec 32 := Scalar.xori v151 v152
  let c2048_i32_182 : BitVec 32 := 2048#32
  let v154 : BitVec 32 := Scalar.muli v153 c2048_i32_182
  let v155 : BitVec 32 := Scalar.addi v154 c0_i32_183
  let c0_i32_184 : BitVec 32 := 0#32
  let v156 : BitVec 32 := Scalar.addi v155 c0_i32_184
  let c0_i32_195 : BitVec 32 := 0#32
  ![v156.toNat, 0]
def k0_dev19 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_191 : BitVec 32 := 8#32
  let v157 : BitVec 32 := Scalar.muli v27 c8_i32_191
  let v158 : BitVec 32 := Scalar.addi c0_i32_192 v157
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_193 : BitVec 32 := 4#32
  let v159 : BitVec 32 := Scalar.muli v31 c4_i32_193
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v161 : BitVec 32 := Scalar.muli v8 c1_i32_194
  let v162 : BitVec 32 := Scalar.addi v160 v161
  v162.toNat
def k0_off14 (d0 : Dev nD) (c0_i32_197 : BitVec 32) (c0_i32_206 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let v169 : BitVec 32 := Scalar.addi v14 c0_i32_197
  let c4_i32_198 : BitVec 32 := 4#32
  let c0_i32_199 : BitVec 32 := 0#32
  let v170 : BitVec 1 := Scalar.cmpi .eq c4_i32_198 c0_i32_199
  let c1_i32_200 : BitVec 32 := 1#32
  let v171 : BitVec 32 := Scalar.select v170 c1_i32_200 c4_i32_198
  let v172 : BitVec 32 := Scalar.remsi v169 v171
  let c0_i32_202 : BitVec 32 := 0#32
  let v174 : BitVec 1 := Scalar.cmpi .slt v172 c0_i32_202
  let c0_i32_203 : BitVec 32 := 0#32
  let v175 : BitVec 1 := Scalar.cmpi .slt v171 c0_i32_203
  let v176 : BitVec 1 := Scalar.xori v174 v175
  let c0_i32_201 : BitVec 32 := 0#32
  let v173 : BitVec 1 := Scalar.cmpi .ne v172 c0_i32_201
  let v177 : BitVec 1 := Scalar.andi v176 v173
  let v178 : BitVec 32 := Scalar.addi v172 v171
  let v179 : BitVec 32 := Scalar.select v177 v178 v172
  let c1_i32_204 : BitVec 32 := 1#32
  let v180 : BitVec 32 := Scalar.shrsi v179 c1_i32_204
  let v181 : BitVec 32 := Scalar.xori v179 v180
  let c2048_i32_205 : BitVec 32 := 2048#32
  let v182 : BitVec 32 := Scalar.muli v181 c2048_i32_205
  let v183 : BitVec 32 := Scalar.addi v182 c0_i32_206
  let c256_i32 : BitVec 32 := 256#32
  let v184 : BitVec 32 := Scalar.addi v183 c256_i32
  let c0_i32_217 : BitVec 32 := 0#32
  ![v184.toNat, 0]
def k0_dev20 (d0 : Dev nD) : Nat :=
  let c0_i32_214 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_213 : BitVec 32 := 8#32
  let v185 : BitVec 32 := Scalar.muli v44 c8_i32_213
  let v186 : BitVec 32 := Scalar.addi c0_i32_214 v185
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_215 : BitVec 32 := 4#32
  let v187 : BitVec 32 := Scalar.muli v48 c4_i32_215
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v189 : BitVec 32 := Scalar.muli v8 c1_i32_216
  let v190 : BitVec 32 := Scalar.addi v188 v189
  v190.toNat
def k0_dev21 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_236 : BitVec 32 := 8#32
  let v214 : BitVec 32 := Scalar.muli v27 c8_i32_236
  let v215 : BitVec 32 := Scalar.addi c0_i32_237 v214
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_238 : BitVec 32 := 4#32
  let v216 : BitVec 32 := Scalar.muli v31 c4_i32_238
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v218 : BitVec 32 := Scalar.muli v8 c1_i32_239
  let v219 : BitVec 32 := Scalar.addi v217 v218
  v219.toNat
def k0_dev22 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_259 : BitVec 32 := 8#32
  let v242 : BitVec 32 := Scalar.muli v44 c8_i32_259
  let v243 : BitVec 32 := Scalar.addi c0_i32_260 v242
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_261 : BitVec 32 := 4#32
  let v244 : BitVec 32 := Scalar.muli v48 c4_i32_261
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v246 : BitVec 32 := Scalar.muli v8 c1_i32_262
  let v247 : BitVec 32 := Scalar.addi v245 v246
  v247.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_265 : BitVec 32 := 3#32
  let v254 : BitVec 1 := Scalar.cmpi .slt v8 c3_i32_265
  let v255 : BitVec 32 := Scalar.extui v254
  let c0_i32_270 : BitVec 32 := 0#32
  let v256 : BitVec 1 := Scalar.cmpi .ne v255 c0_i32_270
  v256

def k0_off15 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1873 : BitVec 32 := 512#32
  let v2007 : BitVec 32 := Scalar.addi v11 c512_i32_1873
  let v2008 : Index := Scalar.indexCast v2007
  let c0_1874 : Index := 0#32
  ![v2008.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_68 : BitVec 32 := 3#32
  let v98 : BitVec 1 := Scalar.cmpi .eq v8 c3_i32_68
  let v257 : BitVec 32 := Scalar.extui v98
  let c0_i32_271 : BitVec 32 := 0#32
  let v258 : BitVec 1 := Scalar.cmpi .ne v257 c0_i32_271
  v258

def k0_off16 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1862 : BitVec 32 := 512#32
  let v1992 : BitVec 32 := Scalar.addi v11 c512_i32_1862
  let v1993 : Index := Scalar.indexCast v1992
  let c0_1863 : Index := 0#32
  ![v1993.toNat, 0]
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v259 : BitVec 32 := Scalar.extui v101
  let c0_i32_276 : BitVec 32 := 0#32
  let v260 : BitVec 1 := Scalar.cmpi .ne v259 c0_i32_276
  v260

def k0_off17 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c512_i32_1862 : BitVec 32 := 512#32
  let v1992 : BitVec 32 := Scalar.addi v11 c512_i32_1862
  let v1993 : Index := Scalar.indexCast v1992
  let c0_1863 : Index := 0#32
  ![v1993.toNat, 0]
def k0_dev23 (d0 : Dev nD) : Nat :=
  let c0_i32_1868 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1867 : BitVec 32 := 8#32
  let v2000 : BitVec 32 := Scalar.muli v2 c8_i32_1867
  let v2001 : BitVec 32 := Scalar.addi c0_i32_1868 v2000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1869 : BitVec 32 := 4#32
  let v2002 : BitVec 32 := Scalar.muli v5 c4_i32_1869
  let v2003 : BitVec 32 := Scalar.addi v2001 v2002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_38 : BitVec 32 := 4#32
  let v60 : BitVec 32 := Scalar.addi v8 c4_i32_38
  let c1_i32_39 : BitVec 32 := 1#32
  let v61 : BitVec 32 := Scalar.subi v60 c1_i32_39
  let c4_i32_40 : BitVec 32 := 4#32
  let c0_i32_41 : BitVec 32 := 0#32
  let v62 : BitVec 1 := Scalar.cmpi .eq c4_i32_40 c0_i32_41
  let c1_i32_42 : BitVec 32 := 1#32
  let v63 : BitVec 32 := Scalar.select v62 c1_i32_42 c4_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_1870 : BitVec 32 := 1#32
  let v2004 : BitVec 32 := Scalar.muli v71 c1_i32_1870
  let v2005 : BitVec 32 := Scalar.addi v2003 v2004
  v2005.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_277 : BitVec 32 := 0#32
  let v261 : BitVec 1 := Scalar.cmpi .sgt v8 c0_i32_277
  let v262 : BitVec 32 := Scalar.extui v261
  let c0_i32_282 : BitVec 32 := 0#32
  let v263 : BitVec 1 := Scalar.cmpi .ne v262 c0_i32_282
  v263

def k0_off18 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1873 : BitVec 32 := 1536#32
  let v2007 : BitVec 32 := Scalar.addi v11 c1536_i32_1873
  let v2008 : Index := Scalar.indexCast v2007
  let c0_1874 : Index := 0#32
  ![v2008.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v97 : BitVec 1 := Scalar.cmpi .eq v8 c0_i32_67
  let v264 : BitVec 32 := Scalar.extui v97
  let c0_i32_283 : BitVec 32 := 0#32
  let v265 : BitVec 1 := Scalar.cmpi .ne v264 c0_i32_283
  v265

def k0_off19 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1862 : BitVec 32 := 1536#32
  let v1992 : BitVec 32 := Scalar.addi v11 c1536_i32_1862
  let v1993 : Index := Scalar.indexCast v1992
  let c0_1863 : Index := 0#32
  ![v1993.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_69 : BitVec 32 := 0#32
  let v99 : BitVec 1 := Scalar.cmpi .sgt v8 c0_i32_69
  let c3_i32_70 : BitVec 32 := 3#32
  let v100 : BitVec 1 := Scalar.cmpi .slt v8 c3_i32_70
  let v101 : BitVec 1 := Scalar.andi v99 v100
  let v266 : BitVec 32 := Scalar.extui v101
  let c0_i32_288 : BitVec 32 := 0#32
  let v267 : BitVec 1 := Scalar.cmpi .ne v266 c0_i32_288
  v267

def k0_off20 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let c1536_i32_1862 : BitVec 32 := 1536#32
  let v1992 : BitVec 32 := Scalar.addi v11 c1536_i32_1862
  let v1993 : Index := Scalar.indexCast v1992
  let c0_1863 : Index := 0#32
  ![v1993.toNat, 0]
def k0_dev24 (d0 : Dev nD) : Nat :=
  let c0_i32_1868 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1867 : BitVec 32 := 8#32
  let v2000 : BitVec 32 := Scalar.muli v2 c8_i32_1867
  let v2001 : BitVec 32 := Scalar.addi c0_i32_1868 v2000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1869 : BitVec 32 := 4#32
  let v2002 : BitVec 32 := Scalar.muli v5 c4_i32_1869
  let v2003 : BitVec 32 := Scalar.addi v2001 v2002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.addi v8 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_1870 : BitVec 32 := 1#32
  let v2004 : BitVec 32 := Scalar.muli v59 c1_i32_1870
  let v2005 : BitVec 32 := Scalar.addi v2003 v2004
  v2005.toNat
def k0_dev25 (d0 : Dev nD) : Nat :=
  let c0_i32_307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_306 : BitVec 32 := 8#32
  let v285 : BitVec 32 := Scalar.muli v27 c8_i32_306
  let v286 : BitVec 32 := Scalar.addi c0_i32_307 v285
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_308 : BitVec 32 := 4#32
  let v287 : BitVec 32 := Scalar.muli v31 c4_i32_308
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v289 : BitVec 32 := Scalar.muli v8 c1_i32_309
  let v290 : BitVec 32 := Scalar.addi v288 v289
  v290.toNat
def k0_dev26 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_329 : BitVec 32 := 8#32
  let v313 : BitVec 32 := Scalar.muli v44 c8_i32_329
  let v314 : BitVec 32 := Scalar.addi c0_i32_330 v313
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_331 : BitVec 32 := 4#32
  let v315 : BitVec 32 := Scalar.muli v48 c4_i32_331
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v317 : BitVec 32 := Scalar.muli v8 c1_i32_332
  let v318 : BitVec 32 := Scalar.addi v316 v317
  v318.toNat
def k0_dev27 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_352 : BitVec 32 := 8#32
  let v342 : BitVec 32 := Scalar.muli v27 c8_i32_352
  let v343 : BitVec 32 := Scalar.addi c0_i32_353 v342
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_354 : BitVec 32 := 4#32
  let v344 : BitVec 32 := Scalar.muli v31 c4_i32_354
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v346 : BitVec 32 := Scalar.muli v8 c1_i32_355
  let v347 : BitVec 32 := Scalar.addi v345 v346
  v347.toNat
def k0_dev28 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_375 : BitVec 32 := 8#32
  let v370 : BitVec 32 := Scalar.muli v44 c8_i32_375
  let v371 : BitVec 32 := Scalar.addi c0_i32_376 v370
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_377 : BitVec 32 := 4#32
  let v372 : BitVec 32 := Scalar.muli v48 c4_i32_377
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v374 : BitVec 32 := Scalar.muli v8 c1_i32_378
  let v375 : BitVec 32 := Scalar.addi v373 v374
  v375.toNat
def k0_dev29 (d0 : Dev nD) : Nat :=
  let c0_i32_424 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_423 : BitVec 32 := 8#32
  let v426 : BitVec 32 := Scalar.muli v27 c8_i32_423
  let v427 : BitVec 32 := Scalar.addi c0_i32_424 v426
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_425 : BitVec 32 := 4#32
  let v428 : BitVec 32 := Scalar.muli v31 c4_i32_425
  let v429 : BitVec 32 := Scalar.addi v427 v428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v430 : BitVec 32 := Scalar.muli v8 c1_i32_426
  let v431 : BitVec 32 := Scalar.addi v429 v430
  v431.toNat
def k0_dev30 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_469 : BitVec 32 := 8#32
  let v480 : BitVec 32 := Scalar.muli v44 c8_i32_469
  let v481 : BitVec 32 := Scalar.addi c0_i32_470 v480
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_471 : BitVec 32 := 4#32
  let v482 : BitVec 32 := Scalar.muli v48 c4_i32_471
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v484 : BitVec 32 := Scalar.muli v8 c1_i32_472
  let v485 : BitVec 32 := Scalar.addi v483 v484
  v485.toNat
def k0_dev31 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_517 : BitVec 32 := 8#32
  let v536 : BitVec 32 := Scalar.muli v27 c8_i32_517
  let v537 : BitVec 32 := Scalar.addi c0_i32_518 v536
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_519 : BitVec 32 := 4#32
  let v538 : BitVec 32 := Scalar.muli v31 c4_i32_519
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v540 : BitVec 32 := Scalar.muli v8 c1_i32_520
  let v541 : BitVec 32 := Scalar.addi v539 v540
  v541.toNat
def k0_dev32 (d0 : Dev nD) : Nat :=
  let c0_i32_564 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_563 : BitVec 32 := 8#32
  let v590 : BitVec 32 := Scalar.muli v44 c8_i32_563
  let v591 : BitVec 32 := Scalar.addi c0_i32_564 v590
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_565 : BitVec 32 := 4#32
  let v592 : BitVec 32 := Scalar.muli v48 c4_i32_565
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v594 : BitVec 32 := Scalar.muli v8 c1_i32_566
  let v595 : BitVec 32 := Scalar.addi v593 v594
  v595.toNat
def k0_dev33 (d0 : Dev nD) : Nat :=
  let c0_i32_612 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_611 : BitVec 32 := 8#32
  let v646 : BitVec 32 := Scalar.muli v27 c8_i32_611
  let v647 : BitVec 32 := Scalar.addi c0_i32_612 v646
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_613 : BitVec 32 := 4#32
  let v648 : BitVec 32 := Scalar.muli v31 c4_i32_613
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_614 : BitVec 32 := 1#32
  let v650 : BitVec 32 := Scalar.muli v8 c1_i32_614
  let v651 : BitVec 32 := Scalar.addi v649 v650
  v651.toNat
def k0_dev34 (d0 : Dev nD) : Nat :=
  let c0_i32_658 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_657 : BitVec 32 := 8#32
  let v700 : BitVec 32 := Scalar.muli v44 c8_i32_657
  let v701 : BitVec 32 := Scalar.addi c0_i32_658 v700
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_659 : BitVec 32 := 4#32
  let v702 : BitVec 32 := Scalar.muli v48 c4_i32_659
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v704 : BitVec 32 := Scalar.muli v8 c1_i32_660
  let v705 : BitVec 32 := Scalar.addi v703 v704
  v705.toNat
def k0_dev35 (d0 : Dev nD) : Nat :=
  let c0_i32_706 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_705 : BitVec 32 := 8#32
  let v756 : BitVec 32 := Scalar.muli v27 c8_i32_705
  let v757 : BitVec 32 := Scalar.addi c0_i32_706 v756
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_707 : BitVec 32 := 4#32
  let v758 : BitVec 32 := Scalar.muli v31 c4_i32_707
  let v759 : BitVec 32 := Scalar.addi v757 v758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_708 : BitVec 32 := 1#32
  let v760 : BitVec 32 := Scalar.muli v8 c1_i32_708
  let v761 : BitVec 32 := Scalar.addi v759 v760
  v761.toNat
def k0_dev36 (d0 : Dev nD) : Nat :=
  let c0_i32_752 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_751 : BitVec 32 := 8#32
  let v810 : BitVec 32 := Scalar.muli v44 c8_i32_751
  let v811 : BitVec 32 := Scalar.addi c0_i32_752 v810
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_753 : BitVec 32 := 4#32
  let v812 : BitVec 32 := Scalar.muli v48 c4_i32_753
  let v813 : BitVec 32 := Scalar.addi v811 v812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_754 : BitVec 32 := 1#32
  let v814 : BitVec 32 := Scalar.muli v8 c1_i32_754
  let v815 : BitVec 32 := Scalar.addi v813 v814
  v815.toNat
def k0_dev37 (d0 : Dev nD) : Nat :=
  let c0_i32_800 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_799 : BitVec 32 := 8#32
  let v866 : BitVec 32 := Scalar.muli v27 c8_i32_799
  let v867 : BitVec 32 := Scalar.addi c0_i32_800 v866
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_801 : BitVec 32 := 4#32
  let v868 : BitVec 32 := Scalar.muli v31 c4_i32_801
  let v869 : BitVec 32 := Scalar.addi v867 v868
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_802 : BitVec 32 := 1#32
  let v870 : BitVec 32 := Scalar.muli v8 c1_i32_802
  let v871 : BitVec 32 := Scalar.addi v869 v870
  v871.toNat
def k0_dev38 (d0 : Dev nD) : Nat :=
  let c0_i32_846 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_845 : BitVec 32 := 8#32
  let v920 : BitVec 32 := Scalar.muli v44 c8_i32_845
  let v921 : BitVec 32 := Scalar.addi c0_i32_846 v920
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_847 : BitVec 32 := 4#32
  let v922 : BitVec 32 := Scalar.muli v48 c4_i32_847
  let v923 : BitVec 32 := Scalar.addi v921 v922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_848 : BitVec 32 := 1#32
  let v924 : BitVec 32 := Scalar.muli v8 c1_i32_848
  let v925 : BitVec 32 := Scalar.addi v923 v924
  v925.toNat
def k0_dev39 (d0 : Dev nD) : Nat :=
  let c0_i32_894 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_893 : BitVec 32 := 8#32
  let v976 : BitVec 32 := Scalar.muli v27 c8_i32_893
  let v977 : BitVec 32 := Scalar.addi c0_i32_894 v976
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_895 : BitVec 32 := 4#32
  let v978 : BitVec 32 := Scalar.muli v31 c4_i32_895
  let v979 : BitVec 32 := Scalar.addi v977 v978
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_896 : BitVec 32 := 1#32
  let v980 : BitVec 32 := Scalar.muli v8 c1_i32_896
  let v981 : BitVec 32 := Scalar.addi v979 v980
  v981.toNat
def k0_dev40 (d0 : Dev nD) : Nat :=
  let c0_i32_940 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_939 : BitVec 32 := 8#32
  let v1030 : BitVec 32 := Scalar.muli v44 c8_i32_939
  let v1031 : BitVec 32 := Scalar.addi c0_i32_940 v1030
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_941 : BitVec 32 := 4#32
  let v1032 : BitVec 32 := Scalar.muli v48 c4_i32_941
  let v1033 : BitVec 32 := Scalar.addi v1031 v1032
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_942 : BitVec 32 := 1#32
  let v1034 : BitVec 32 := Scalar.muli v8 c1_i32_942
  let v1035 : BitVec 32 := Scalar.addi v1033 v1034
  v1035.toNat
def k0_dev41 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_987 : BitVec 32 := 8#32
  let v1086 : BitVec 32 := Scalar.muli v27 c8_i32_987
  let v1087 : BitVec 32 := Scalar.addi c0_i32_988 v1086
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_989 : BitVec 32 := 4#32
  let v1088 : BitVec 32 := Scalar.muli v31 c4_i32_989
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1090 : BitVec 32 := Scalar.muli v8 c1_i32_990
  let v1091 : BitVec 32 := Scalar.addi v1089 v1090
  v1091.toNat
def k0_dev42 (d0 : Dev nD) : Nat :=
  let c0_i32_1034 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_1033 : BitVec 32 := 8#32
  let v1140 : BitVec 32 := Scalar.muli v44 c8_i32_1033
  let v1141 : BitVec 32 := Scalar.addi c0_i32_1034 v1140
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_1035 : BitVec 32 := 4#32
  let v1142 : BitVec 32 := Scalar.muli v48 c4_i32_1035
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v1144 : BitVec 32 := Scalar.muli v8 c1_i32_1036
  let v1145 : BitVec 32 := Scalar.addi v1143 v1144
  v1145.toNat
def k0_dev43 (d0 : Dev nD) : Nat :=
  let c0_i32_1082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c1_i32_3 : BitVec 32 := 1#32
  let v15 : BitVec 32 := Scalar.addi v14 c1_i32_3
  let c4_i32_4 : BitVec 32 := 4#32
  let c0_i32_5 : BitVec 32 := 0#32
  let v16 : BitVec 1 := Scalar.cmpi .eq c4_i32_4 c0_i32_5
  let c1_i32_6 : BitVec 32 := 1#32
  let v17 : BitVec 32 := Scalar.select v16 c1_i32_6 c4_i32_4
  let v18 : BitVec 32 := Scalar.remsi v15 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c2_i32_10 : BitVec 32 := 2#32
  let v26 : BitVec 1 := Scalar.cmpi .sge v25 c2_i32_10
  let c1_i32_11 : BitVec 32 := 1#32
  let c0_i32_12 : BitVec 32 := 0#32
  let v27 : BitVec 32 := Scalar.select v26 c1_i32_11 c0_i32_12
  let c8_i32_1081 : BitVec 32 := 8#32
  let v1196 : BitVec 32 := Scalar.muli v27 c8_i32_1081
  let v1197 : BitVec 32 := Scalar.addi c0_i32_1082 v1196
  let c1_i32_13 : BitVec 32 := 1#32
  let v28 : BitVec 1 := Scalar.cmpi .eq v25 c1_i32_13
  let c2_i32_14 : BitVec 32 := 2#32
  let v29 : BitVec 1 := Scalar.cmpi .eq v25 c2_i32_14
  let v30 : BitVec 1 := Scalar.ori v28 v29
  let c1_i32_15 : BitVec 32 := 1#32
  let c0_i32_16 : BitVec 32 := 0#32
  let v31 : BitVec 32 := Scalar.select v30 c1_i32_15 c0_i32_16
  let c4_i32_1083 : BitVec 32 := 4#32
  let v1198 : BitVec 32 := Scalar.muli v31 c4_i32_1083
  let v1199 : BitVec 32 := Scalar.addi v1197 v1198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1200 : BitVec 32 := Scalar.muli v8 c1_i32_1084
  let v1201 : BitVec 32 := Scalar.addi v1199 v1200
  v1201.toNat
def k0_dev44 (d0 : Dev nD) : Nat :=
  let c0_i32_1128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v12 : BitVec 1 := Scalar.cmpi .eq v2 c0_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c3_i32 : BitVec 32 := 3#32
  let v13 : BitVec 32 := Scalar.subi c3_i32 v5
  let v14 : BitVec 32 := Scalar.select v12 v5 v13
  let c3_i32_17 : BitVec 32 := 3#32
  let v32 : BitVec 32 := Scalar.addi v14 c3_i32_17
  let c4_i32_18 : BitVec 32 := 4#32
  let c0_i32_19 : BitVec 32 := 0#32
  let v33 : BitVec 1 := Scalar.cmpi .eq c4_i32_18 c0_i32_19
  let c1_i32_20 : BitVec 32 := 1#32
  let v34 : BitVec 32 := Scalar.select v33 c1_i32_20 c4_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c2_i32_24 : BitVec 32 := 2#32
  let v43 : BitVec 1 := Scalar.cmpi .sge v42 c2_i32_24
  let c1_i32_25 : BitVec 32 := 1#32
  let c0_i32_26 : BitVec 32 := 0#32
  let v44 : BitVec 32 := Scalar.select v43 c1_i32_25 c0_i32_26
  let c8_i32_1127 : BitVec 32 := 8#32
  let v1250 : BitVec 32 := Scalar.muli v44 c8_i32_1127
  let v1251 : BitVec 32 := Scalar.addi c0_i32_1128 v1250
  let c1_i32_27 : BitVec 32 := 1#32
  let v45 : BitVec 1 := Scalar.cmpi .eq v42 c1_i32_27
  let c2_i32_28 : BitVec 32 := 2#32
  let v46 : BitVec 1 := Scalar.cmpi .eq v42 c2_i32_28
  let v47 : BitVec 1 := Scalar.ori v45 v46
  let c1_i32_29 : BitVec 32 := 1#32
  let c0_i32_30 : BitVec 32 := 0#32
  let v48 : BitVec 32 := Scalar.select v47 c1_i32_29 c0_i32_30
  let c4_i32_1129 : BitVec 32 := 4#32
  let v1252 : BitVec 32 := Scalar.muli v48 c4_i32_1129
  let v1253 : BitVec 32 := Scalar.addi v1251 v1252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1130 : BitVec 32 := 1#32
  let v1254 : BitVec 32 := Scalar.muli v8 c1_i32_1130
  let v1255 : BitVec 32 := Scalar.addi v1253 v1254
  v1255.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S4x8192x1024, .bf16⟩
  | .hbm, ⟨2, _⟩ => ⟨S4x8192x1024, .f32⟩
  | .hbm, ⟨3, _⟩ => ⟨S_, .f32⟩
  | .hbm, ⟨4, _⟩ => ⟨S8192x1024, .f32⟩
  | .hbm, ⟨5, _⟩ => ⟨S8192x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Plan.lean ====
/- The plan of one device's run, as bookkeeping over finite data: which rights the device holds, and how each
   step of the kernel trades some of them for others. Nothing here mentions contents or programs; the modules that
   follow say what each right means and that each step of the kernel makes the trade listed for it. -/
module

public import Mathlib.Data.Fintype.Sum
public import Mathlib.Data.Fintype.Sigma
public import Mathlib.Data.Fin.VecNotation
public import Mathlib.Tactic.DeriveFintype

@[expose] public section

namespace Cert.AllReduce

/-- A remote copy a device may start: of chunk `j` of the sum travelling up the `z` axis, of chunk `j` of the sum
    travelling down it, or, in direction `d` around the ring of four, its hop `h` for chunk `j`. -/
inductive X where
  | pf (j : Fin 4)
  | sf (j : Fin 4)
  | ag (d : Fin 2) (h : Fin 3) (j : Fin 4)
  deriving DecidableEq, Fintype

/-- A part of a device's memory that is handed over whole: slot `j` of either scratch buffer, or the half chunk
    `(j, d)` of the result rows owned by the device `o` ring places away (against direction `d`). -/
inductive Bf where
  | pf (j : Fin 4)
  | sf (j : Fin 4)
  | out (d : Fin 2) (o j : Fin 4)
  deriving DecidableEq

/-- A right a device may hold. -/
inductive Res where
  /-- to signal the barrier of neighbour `i`, which it owes -/
  | btok (i : Fin 4)
  /-- its place before, after its barrier, and its credit for it -/
  | bpos | bposD | bcr
  /-- to start copy `t`, which it owes -/
  | tok (t : X)
  /-- its place before, after the wait for the end of its own copy `t`, and its credit for it -/
  | spos (t : X) | sposD (t : X) | scr (t : X)
  /-- its place before, after the wait for the arrival of copy `t`, and its credit for it -/
  | rpos (t : X) | rposD (t : X) | rcr (t : X)
  /-- the memory copy `t` writes, at its target -/
  | dst (t : X)
  /-- a part of its own memory: at any contents; -/
  | junk (b : Bf)
  /-- at the contents meant for it; -/
  | val (b : Bf)
  /-- at the contents the neighbour sent; -/
  | raw (b : Bf)
  /-- half the right at the contents meant for it -/
  | half (b : Bf)
  deriving DecidableEq

/-- A step of the kernel on one device. -/
inductive Op where
  | sig (i : Fin 4) | bwait
  | initPf (j : Fin 4) | initSf (j : Fin 4) | accPf (j : Fin 4) | accSf (j : Fin 4)
  | outSum (j : Fin 4) | outPf (j : Fin 4) | outSf (j : Fin 4)
  | send (t : X) | recv (t : X) | wsend (t : X)
  deriving DecidableEq

/-- Whether a device at height `z` starts copy `t`. -/
def active (z : Fin 4) : X → Bool
  | .pf _ => decide (z ≠ 3)
  | .sf _ => decide (z ≠ 0)
  | .ag _ _ _ => true

/-- Whether copy `t` arrives at a device at height `z`. -/
def activeR (z : Fin 4) : X → Bool
  | .pf _ => decide (z ≠ 0)
  | .sf _ => decide (z ≠ 3)
  | .ag _ _ _ => true

/-- The height of the target of copy `t`. -/
def tgtz (z : Fin 4) : X → Fin 4
  | .pf _ => z + 1
  | .sf _ => z - 1
  | .ag _ _ _ => z

/-- The memory copy `t` reads, and the memory it writes. -/
def srcB : X → Bf
  | .pf j => .pf j
  | .sf j => .sf j
  | .ag d h j => .out d h.castSucc j
def dstB : X → Bf
  | .pf j => .pf j
  | .sf j => .sf j
  | .ag d h j => .out d h.succ j

/-- The place of the wait for copy `t`'s arrival in the kernel's order of waits. -/
def posn : X → ℕ
  | .pf j => ![1, 3, 6, 8] j
  | .sf j => ![5, 7, 2, 4] j
  | .ag d h j => 9 + 8 * h.val + 2 * ![0, 2, 1, 3] j + d.val

/-- The level of the arrival of copy `t` at a device at height `z`: later waits are higher, and along the `z` axis the
    devices further on. -/
def lev (z : Fin 4) (t : X) : ℕ :=
  4 * posn t + match t with
    | .pf _ => z.val
    | .sf _ => 3 - z.val
    | .ag _ _ _ => 0

/-- The copies whose targets' memory comes with the signal of neighbour `k` (above, below, right, left). -/
def gotT (z k : Fin 4) : List X :=
  match k with
  | 0 => if z ≠ 3 then (List.finRange 4).map .pf else []
  | 1 => if z ≠ 0 then (List.finRange 4).map .sf else []
  | 2 => (List.finRange 3).flatMap fun h => (List.finRange 4).map (.ag 0 h)
  | 3 => (List.finRange 3).flatMap fun h => (List.finRange 4).map (.ag 1 h)

/-- The height of neighbour `i`, and which neighbour of it this device is. -/
def nbz (z i : Fin 4) : Fin 4 := match i with | 0 => z + 1 | 1 => z - 1 | 2 => z | 3 => z
def opp (i : Fin 4) : Fin 4 := match i with | 0 => 1 | 1 => 0 | 2 => 3 | 3 => 2

/-- What the device keeps of a copy's source while the copy is under way. -/
def keptB : X → List Res
  | .pf j => [.half (.pf j)]
  | .sf j => [.half (.sf j)]
  | .ag _ _ _ => []

/-- What the arrival of a copy brings. -/
def landB : X → Res
  | .pf j => .raw (.pf j)
  | .sf j => .raw (.sf j)
  | .ag d h j => .val (.out d h.succ j)

def outs (j : Fin 4) (f : Bf → Res) : List Res := [f (.out 0 0 j), f (.out 1 0 j)]

/-- What the sum of chunk `j` is formed from. -/
def sumIn (j : Fin 4) : List Res := if j.val < 2 then [.half (.pf j), .raw (.sf j)] else [.raw (.pf j), .half (.sf j)]

/-- What a step takes, -/
def pre (z : Fin 4) : Op → List Res
  | .sig i => .btok i :: (gotT (nbz z i) (opp i)).map fun t => .junk (dstB t)
  | .bwait => [.bpos, .bcr]
  | .initPf j => [.junk (.pf j)]
  | .initSf j => [.junk (.sf j)]
  | .accPf j => [.raw (.pf j)]
  | .accSf j => [.raw (.sf j)]
  | .outSum j => sumIn j ++ outs j .junk
  | .outPf j => .val (.pf j) :: outs j .junk
  | .outSf j => .val (.sf j) :: outs j .junk
  | .send t => [.tok t, .dst t, .val (srcB t)]
  | .recv t => [.rpos t, .rcr t]
  | .wsend t => .spos t :: .scr t :: keptB t

/-- and what it gives. -/
def post (z : Fin 4) : Op → List Res
  | .sig _ => []
  | .bwait => .bposD :: (gotT z 0 ++ gotT z 1 ++ gotT z 2 ++ gotT z 3).map .dst
  | .initPf j => [.val (.pf j)]
  | .initSf j => [.val (.sf j)]
  | .accPf j => [.val (.pf j)]
  | .accSf j => [.val (.sf j)]
  | .outSum j => sumIn j ++ outs j .val
  | .outPf j => .val (.pf j) :: outs j .val
  | .outSf j => .val (.sf j) :: outs j .val
  | .send t => .scr t :: keptB t
  | .recv t => [.rposD t, landB t]
  | .wsend t => [.sposD t, .val (srcB t)]

/-- Nothing still owed is at or below level `n`; no barrier signal is owed. -/
def above (z : Fin 4) (n : ℕ) : Res → Bool
  | .btok _ => false
  | .tok t => decide (n < lev (tgtz z t) t)
  | _ => true

/-- When a step may be made, holding `σ` beyond what it takes. -/
def ok (z : Fin 4) (σ : List Res) : Op → Bool
  | .sig _ => true
  | .bwait => σ.all (above z 1)
  | .initPf _ => decide (z = 0)
  | .initSf _ => decide (z = 3)
  | .accPf _ => decide (z ≠ 0)
  | .accSf _ => decide (z ≠ 3)
  | .outSum j => if j.val < 2 then decide (z ≠ 3) else decide (z ≠ 0)
  | .outPf j => decide (z = 3) && decide (j.val < 2)
  | .outSf j => decide (z = 0) && decide (2 ≤ j.val)
  | .send t => active z t
  | .recv t => activeR z t && σ.all (above z (lev z t))
  | .wsend t => active z t && σ.all (above z 0)

/-- Take the right `r` out of `σ`. -/
def take (r : Res) : List Res → Option (List Res)
  | [] => none
  | a :: σ => if a = r then some σ else (take r σ).map (a :: ·)

def takeAll : List Res → List Res → Option (List Res)
  | [], σ => some σ
  | r :: rs, σ => (take r σ).bind (takeAll rs)

def step (z : Fin 4) (o : Op) (σ : List Res) : Option (List Res) :=
  (takeAll (pre z o) σ).bind fun ρ => if ok z ρ o then some (post z o ++ ρ) else none

def run (z : Fin 4) : List Op → List Res → Option (List Res)
  | [], σ => some σ
  | o :: os, σ => (step z o σ).bind (run z os)

theorem run_append (z : Fin 4) (os os' : List Op) (σ : List Res) :
    run z (os ++ os') σ = (run z os σ).bind (run z os') := by
  induction os generalizing σ with
  | nil => rfl
  | cons o os ih =>
    rw [List.cons_append, run, run]
    cases step z o σ with
    | none => rfl
    | some τ => exact ih τ

/-! ## The kernel's order of steps -/

def g (b : Bool) (os : List Op) : List Op := if b then os else []

def lo (z : Fin 4) : Bool := decide (z = 0)
def hi (z : Fin 4) : Bool := decide (z = 3)
def mid (z : Fin 4) : Bool := !lo z && !hi z

def opsBar : List Op := [.sig 0, .sig 1, .sig 2, .sig 3, .bwait]

def startPf (j : Fin 4) : List Op := [.initPf j, .send (.pf j)]
def startSf (j : Fin 4) : List Op := [.initSf j, .send (.sf j)]

def ops8 (z : Fin 4) : List Op :=
  g (lo z) (startPf 0 ++ (startPf 1 ++ (startPf 2 ++ startPf 3))) ++ (g (hi z) (startSf 0 ++ (startSf 1 ++ (startSf 2 ++ startSf 3)))
    ++ g (!lo z) [.recv (.pf 0), .accPf 0])
def ops9 (z : Fin 4) : List Op :=
  g (mid z) [.send (.pf 0)] ++ (g (!hi z) [.recv (.sf 2), .accSf 2] ++ (g (mid z) [.send (.sf 2)]
    ++ (g (!lo z) [.recv (.pf 1), .accPf 1] ++ (g (mid z) [.send (.pf 1)]
    ++ (g (!hi z) [.recv (.sf 3), .accSf 3] ++ g (mid z) [.send (.sf 3)])))))
def opsPair (z : Fin 4) (j k : Fin 4) : List Op :=
  g (!hi z) [.recv (.sf j), .outSum j] ++ (g (hi z) [.outPf j] ++ (g (mid z) [.accSf j, .send (.sf j)]
    ++ (g (!lo z) [.recv (.pf k), .outSum k] ++ (g (lo z) [.outSf k] ++ g (mid z) [.accPf k, .send (.pf k)]))))

/-- The order of the chunks. -/
def chunks : List (Fin 4) := [0, 2, 1, 3]

def agSend (d : Fin 2) (h : Fin 3) (j : Fin 4) : Op := .send (.ag d h j)
def agRecv (d : Fin 2) (h : Fin 3) (j : Fin 4) : Op := .recv (.ag d h j)
def agDone (d : Fin 2) (h : Fin 3) (j : Fin 4) : Op := .wsend (.ag d h j)

/-- The first hop of chunk `j` in both directions; the arrival of hop `h` and the start of hop `h'`, both directions;
    the last arrivals; the ends of the device's own copies. -/
def agFirst (j : Fin 4) : List Op := [agSend 0 0 j, agSend 1 0 j]
def agNext (h h' : Fin 3) (j : Fin 4) : List Op := [agRecv 0 h j, agSend 0 h' j, agRecv 1 h j, agSend 1 h' j]
def agLast (j : Fin 4) : List Op := [agRecv 0 2 j, agRecv 1 2 j]
def agEnd (h : Fin 3) (j : Fin 4) : List Op := [agDone 0 h j, agDone 1 h j]

def opsAg : List Op :=
  chunks.flatMap (agNext 0 1) ++ (chunks.flatMap (agNext 1 2) ++ (chunks.flatMap agLast
    ++ (List.finRange 3).flatMap fun h => (List.finRange 4).flatMap (agEnd h)))

def opsEnd (z : Fin 4) : List Op :=
  (List.finRange 4).flatMap fun j => g (!hi z) [.wsend (.pf j)] ++ g (!lo z) [.wsend (.sf j)]

def ops (z : Fin 4) : List Op :=
  opsBar ++ (ops8 z ++ (ops9 z ++ (opsPair z 0 2 ++ ((agFirst 0 ++ agFirst 2) ++ (opsPair z 1 3 ++ ((agFirst 1 ++ agFirst 3) ++ (opsAg ++ opsEnd z)))))))

/-! ## The rights at the start and at the end -/

def allX : List X :=
  (List.finRange 4).map .pf ++ ((List.finRange 4).map .sf
    ++ (List.finRange 2).flatMap fun d => (List.finRange 3).flatMap fun h => (List.finRange 4).map (.ag d h))

def allOut : List Bf := (List.finRange 2).flatMap fun d => (List.finRange 4).flatMap fun o => (List.finRange 4).map (.out d o)
def allPf : List Bf := (List.finRange 4).map .pf
def allSf : List Bf := (List.finRange 4).map .sf

def σ₀ (z : Fin 4) : List Res :=
  (List.finRange 4).map .btok ++ ([.bpos, .bcr] ++ ((allX.filter (active z)).map .tok ++ (allX.map .spos ++ (allX.map .rpos
    ++ ((allX.filter (activeR z)).map .rcr ++ (allOut.map .junk ++ (allPf.map .junk ++ allSf.map .junk)))))))

/-- The last rights, by kind. -/
def endS (z : Fin 4) (t : X) : Res := if active z t then .sposD t else .spos t
def endR (z : Fin 4) (t : X) : Res := if activeR z t then .rposD t else .rpos t
def endPf (z : Fin 4) (j : Fin 4) : Res := if z ≠ 0 ∧ z = 3 ∧ 2 ≤ j.val then .raw (.pf j) else .val (.pf j)
def endSf (z : Fin 4) (j : Fin 4) : Res := if z = 0 ∧ j.val < 2 then .raw (.sf j) else .val (.sf j)

def σ₁ (z : Fin 4) : List Res :=
  .bposD :: (allX.map (endS z) ++ (allX.map (endR z) ++ (allOut.map .val ++ ((List.finRange 4).map (endPf z) ++ (List.finRange 4).map (endSf z)))))

/-- The kernel's steps can be made from the first rights, and the last rights can be taken out of what they lead to,
    leaving nothing. -/
theorem plan_runs (z : Fin 4) : ((run z (ops z) (σ₀ z)).bind (takeAll (σ₁ z))) = some [] := by
  revert z; decide +kernel

end Cert.AllReduce

end
-- ==== Proof.Cells.lean ====
/- The mesh, the parts of memory, the contents and the semaphores of the kernel, and what each semaphore's signals
   hand over. The sixteen devices are `4 q + z`, `q` the quarter of the rows a device sums and `z` its height; the four
   quarters lie on a ring in the order `0, 1, 3, 2`. -/
module

public import proofs.«01_k».proof.Proof.Plan
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The mesh -/

set_option backward.proofsInPublic true in
/-- Height, quarter, the device at both, the quarter at a ring place (and the ring place of a quarter). -/
def zc (c : Dev nD) : Fin 4 := ⟨c.val % 4, Nat.mod_lt _ (by decide)⟩
set_option backward.proofsInPublic true in
def qc (c : Dev nD) : Fin 4 := ⟨c.val / 4, by have := c.isLt; change c.val < 16 at this; omega⟩
set_option backward.proofsInPublic true in
def dv (q z : Fin 4) : Dev nD := ⟨4 * q.val + z.val, by show _ < 16; omega⟩
def place (q : Fin 4) : Fin 4 := match q with | 0 => 0 | 1 => 1 | 2 => 3 | 3 => 2

/-- The neighbours: above, below, right, left. -/
def nb (i : Fin 4) (c : Dev nD) : Dev nD :=
  match i with
  | 0 => dv (qc c) (zc c + 1)
  | 1 => dv (qc c) (zc c - 1)
  | 2 => dv (place (place (qc c) + 1)) (zc c)
  | 3 => dv (place (place (qc c) - 1)) (zc c)

/-- The neighbour a copy goes to. -/
def dirX : X → Fin 4
  | .pf _ => 0
  | .sf _ => 1
  | .ag d _ _ => if d = 0 then 2 else 3
def tgt (c : Dev nD) (t : X) : Dev nD := nb (dirX t) c

theorem nb_opp : ∀ (i : Fin 4) (c : Dev nD), nb (opp i) (nb i c) = c := by decide
theorem opp_opp : ∀ i : Fin 4, opp (opp i) = i := by decide
theorem zc_nb : ∀ (i : Fin 4) (c : Dev nD), zc (nb i c) = nbz (zc c) i := by decide
theorem zc_tgt (c : Dev nD) (t : X) : zc (tgt c t) = tgtz (zc c) t := by
  unfold tgt; rw [zc_nb]; cases t with
  | pf j => rfl
  | sf j => rfl
  | ag d h j => show nbz (zc c) (if d = 0 then 2 else 3) = zc c; split <;> rfl
theorem dv_zc : ∀ c : Dev nD, dv (qc c) (zc c) = c := by decide
theorem zc_dv : ∀ q z, zc (dv q z) = z := by decide
theorem qc_dv : ∀ q z, qc (dv q z) = q := by decide

/-- The block of 256 rows that the half chunk `(j, d)` of the device `o` places away is. -/
def blkq (c : Dev nD) (d : Fin 2) (o : Fin 4) : Fin 4 := place (if d = 0 then place (qc c) - o else place (qc c) + o)
set_option backward.proofsInPublic true in
def blk (c : Dev nD) (d : Fin 2) (o j : Fin 4) : Fin 32 := ⟨8 * (blkq c d o).val + 2 * j.val + d.val, by omega⟩

/-! ## The memrefs -/

abbrev A0 : Memref sig .tc .vmem S8192x1024 .bf16 := Memref.whole cc0_stg0_0
abbrev A1 : Memref sig .tc .vmem S8192x1024 .bf16 := Memref.whole cc0_stg1_0
abbrev A2 : Memref sig .tc .vmem S4x512x1024 .bf16 := Memref.whole cc0_scratch0
abbrev A3 : Memref sig .tc .vmem S4x512x1024 .bf16 := Memref.whole cc0_scratch1

def outOff (c : Dev nD) (d : Fin 2) (o j : Fin 4) : Fin 2 → ℕ :=
  match d with
  | 0 => k0_off13 c (BitVec.ofNat 32 o.val) (BitVec.ofNat 32 (512 * j.val))
  | 1 => k0_off14 c (BitVec.ofNat 32 o.val) (BitVec.ofNat 32 (512 * j.val))

theorem outOff_eq : ∀ (c : Dev nD) (d : Fin 2) (o j : Fin 4), outOff c d o j = ![256 * (blk c d o j).val, 0] := by decide +kernel

theorem outOff_inb (c : Dev nD) (d : Fin 2) (o j : Fin 4) (a : Fin 2) : outOff c d o j a + S256x1024.size a ≤ S8192x1024.size a := by
  match d with
  | 0 => exact k0_off13_inb c o j a
  | 1 => exact k0_off14_inb c o j a

/-- A copy's memory at its target is where it was at its source. -/
theorem outOff_step : ∀ (c : Dev nD) (d : Fin 2) (h : Fin 3) (j : Fin 4),
    outOff (tgt c (.ag d h j)) d h.succ j = outOff c d h.castSucc j := by
  intro c d h j
  rw [outOff_eq, outOff_eq]
  have : ∀ (c : Dev nD) (d : Fin 2) (h : Fin 3) (j : Fin 4), blk (tgt c (.ag d h j)) d h.succ j = blk c d h.castSucc j := by decide +kernel
  rw [this]

theorem slotInb (j : Fin 4) (a : Fin 3) : (![j.val, 0, 0] : Fin 3 → ℕ) a + S1x512x1024.size a ≤ S4x512x1024.size a := by
  revert j a; decide

abbrev outR (c : Dev nD) (d : Fin 2) (o j : Fin 4) : Rect S8192x1024 := Rect.unit (s := S8192x1024) (outOff c d o j) S256x1024.size (outOff_inb c d o j)
abbrev slotR (j : Fin 4) : Rect S4x512x1024 := Rect.unit (s := S4x512x1024) ![j.val, 0, 0] S1x512x1024.size (slotInb j)

abbrev outM (c : Dev nD) (d : Fin 2) (o j : Fin 4) : Memref sig .tc .vmem S256x1024 .bf16 := A1.slice (outR c d o j) (fun _ => rfl)
abbrev pfM (j : Fin 4) : Memref sig .tc .vmem S512x1024 .bf16 := (A2.slice (slotR j) (fun _ => rfl)).squeeze S512x1024 squeezes_S1x512x1024_S512x1024
abbrev sfM (j : Fin 4) : Memref sig .tc .vmem S512x1024 .bf16 := (A3.slice (slotR j) (fun _ => rfl)).squeeze S512x1024 squeezes_S1x512x1024_S512x1024

/-! ## The semaphores -/

abbrev barS : Sem sig := (SemArray.scalar (sig.barrier 0 rfl) : Sems sig S_).sem

def semBase : X → ℕ
  | .pf j => j.val
  | .sf j => 8 + j.val
  | .ag d h j => 16 + 12 * d.val + 4 * h.val + j.val
def semGap : X → ℕ
  | .pf _ => 4
  | .sf _ => 4
  | .ag _ _ _ => 24
theorem sem_lt : ∀ t : X, 2 + semBase t + semGap t < 66 := by decide
set_option backward.proofsInPublic true in
/-- The semaphore of a copy's end at its source, and of its arrival at its target. -/
def ssem (t : X) : DmaSem sig := ⟨2 + semBase t, by have := sem_lt t; show _ < 66; omega⟩
set_option backward.proofsInPublic true in
def rsem (t : X) : DmaSem sig := ⟨2 + semBase t + semGap t, sem_lt t⟩

/-- The semaphores of one device: its barrier, and each copy's two. -/
inductive CI where
  | bar
  | snd (t : X)
  | rcv (t : X)
  deriving DecidableEq, Fintype

def csem : CI → SemLoc sig
  | .bar => .reg barS
  | .snd t => .dma (ssem t)
  | .rcv t => .dma (rsem t)

/-- Which copy a semaphore belongs to, and on which side. -/
def decode (s : DmaSem sig) : Option (Bool × X) :=
  match allX.find? (fun t => decide (ssem t = s)) with
  | some t => some (false, t)
  | none => match allX.find? (fun t => decide (rsem t = s)) with
    | some t => some (true, t)
    | none => none

theorem decode_ssem : ∀ t : X, decode (ssem t) = some (false, t) := by decide +kernel
theorem decode_rsem : ∀ t : X, decode (rsem t) = some (true, t) := by decide +kernel

abbrev kcell (ci : Dev nD × CI) : GSem nD τ sig := ((ci.1 : Thread nD τ), csem ci.2)
abbrev barC (c : Dev nD) : GSem nD τ sig := ((c : Thread nD τ), .reg barS)
abbrev sndC (c : Dev nD) (t : X) : GSem nD τ sig := ((c : Thread nD τ), .dma (ssem t))
abbrev rcvC (c : Dev nD) (t : X) : GSem nD τ sig := ((c : Thread nD τ), .dma (rsem t))

theorem csem_injective : Function.Injective csem := by
  intro a b h
  have hd : ∀ {s s' : DmaSem sig}, (SemLoc.dma s : SemLoc sig) = .dma s' → decode s = decode s' := fun h => by cases h; rfl
  cases a with
  | bar => cases b with
    | bar => rfl
    | snd t => exact absurd h (by intro h; cases h)
    | rcv t => exact absurd h (by intro h; cases h)
  | snd t => cases b with
    | bar => exact absurd h (by intro h; cases h)
    | snd t' => have := hd h; rw [decode_ssem, decode_ssem] at this; cases this; rfl
    | rcv t' => have := hd h; rw [decode_ssem, decode_rsem] at this; cases this
  | rcv t => cases b with
    | bar => exact absurd h (by intro h; cases h)
    | snd t' => have := hd h; rw [decode_ssem, decode_rsem] at this; cases this
    | rcv t' => have := hd h; rw [decode_rsem, decode_rsem] at this; cases this; rfl

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- What a copy's two ends count by. -/
def NX : X → ℕ
  | .pf j => (pfM j).view.dmaCredit
  | .sf j => (sfM j).view.dmaCredit
  | .ag d h j => (outM 0 d 0 j).view.dmaCredit

theorem NX_pos (t : X) : 0 < NX t := by
  cases t with
  | pf j => exact View.dmaCredit_pos _ (by decide)
  | sf j => exact View.dmaCredit_pos _ (by decide)
  | ag d h j => exact View.dmaCredit_pos _ (by decide)

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`. -/
def xstg (c : Dev nD) : FVec F S8192x1024 .bf16 :=
  (win0_0.blk (0 : Fin 1)).view.read (Elt F) ((s₀ m ρ).mem ((c : Thread nD τ).loc main_arg0))

/-- The sums of the blocks of one quarter's devices, from below up to `z` and from above down to `z`. -/
def up (q z : Fin 4) : FVec F S8192x1024 .bf16 :=
  let x z := xstg m ρ (dv q z)
  match z with
  | 0 => x 0
  | 1 => addf (x 0) (x 1)
  | 2 => addf (addf (x 0) (x 1)) (x 2)
  | 3 => addf (addf (addf (x 0) (x 1)) (x 2)) (x 3)
def dn (q z : Fin 4) : FVec F S8192x1024 .bf16 :=
  let x z := xstg m ρ (dv q z)
  match z with
  | 3 => x 3
  | 2 => addf (x 3) (x 2)
  | 1 => addf (addf (x 3) (x 2)) (x 1)
  | 0 => addf (addf (addf (x 3) (x 2)) (x 1)) (x 0)

/-- The whole sum, as a device at height `z` forms it for a row of chunk `j` of quarter `q`. -/
def tot (z q : Fin 4) (j : ℕ) : FVec F S8192x1024 .bf16 :=
  if j < 2 then (if z = 3 then up m ρ q 3 else addf (up m ρ q z) (dn m ρ q (z + 1)))
  else (if z = 0 then dn m ρ q 0 else addf (up m ρ q (z - 1)) (dn m ρ q z))

set_option backward.proofsInPublic true in
/-- The row of the whole array that row `i` of slot `j` stands for on the devices of quarter `q`. -/
def slotRow (q : Fin 4) (i : S4x512x1024.Idx) : S8192x1024.Idx :=
  ix2 (⟨2048 * q.val + 512 * (i 0).val + (i 1).val, by
    have h0 : (i 0).val < 4 := (i 0).isLt
    have h1 : (i 1).val < 512 := (i 1).isLt
    omega⟩ : Fin 8192) (⟨(i 2).val, (i 2).isLt⟩ : Fin 1024)

/-- What the two scratch buffers come to hold, and the result. -/
def PFc (c : Dev nD) : FVec F S4x512x1024 .bf16 := fun i => up m ρ (qc c) (zc c) (slotRow (qc c) i)
def SFc (c : Dev nD) : FVec F S4x512x1024 .bf16 := fun i => dn m ρ (qc c) (zc c) (slotRow (qc c) i)
set_option backward.proofsInPublic true in
def OUTc (z : Fin 4) : FVec F S8192x1024 .bf16 := fun i =>
  tot m ρ z (⟨(i 0).val / 2048, by have h : (i 0).val < 8192 := (i 0).isLt; omega⟩) ((i 0).val % 2048 / 512) i

theorem up_step (q z : Fin 4) (h : z ≠ 0) : up m ρ q z = addf (up m ρ q (z - 1)) (xstg m ρ (dv q z)) := by
  match z, h with
  | 1, _ => rfl
  | 2, _ => rfl
  | 3, _ => rfl
theorem dn_step (q z : Fin 4) (h : z ≠ 3) : dn m ρ q z = addf (dn m ρ q (z + 1)) (xstg m ρ (dv q z)) := by
  match z, h with
  | 0, _ => rfl
  | 1, _ => rfl
  | 2, _ => rfl
  | 3, h => exact absurd rfl h

/-! ## Parts of memory held -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The buffer a part is of, and its elements. -/
def bufR : Bf → Ref sig .tc
  | .pf _ => cc0_scratch0
  | .sf _ => cc0_scratch1
  | .out _ _ _ => cc0_stg1_0
def bset (c : Dev nD) : (b : Bf) → Finset (bufR b).ty.Idx
  | .pf j => (slotR j).set
  | .sf j => (slotR j).set
  | .out d o j => (outR c d o j).set

def bp (c : Dev nD) (b : Bf) (q : PosShare TreeShare) (f : (bufR b).ty.Contents (Elt F)) : sProp 𝕄 :=
  ((c : Thread nD τ).loc (bufR b)) ↦[bset c b]{q} f

instance bp_storable (c : Dev nD) (b : Bf) (q f) : BI.Storable (upEmb : UEmb _ 𝕄) (bp (F := F) c b q f) := by unfold bp; infer_instance

/-- What a part is meant to hold, and what it holds as sent by the neighbour. -/
def valC (c : Dev nD) : (b : Bf) → (bufR b).ty.Contents (Elt F)
  | .pf _ => PFc m ρ c
  | .sf _ => SFc m ρ c
  | .out _ _ _ => OUTc m ρ (zc c)
def rawC (c : Dev nD) : (b : Bf) → (bufR b).ty.Contents (Elt F)
  | .pf _ => PFc m ρ (nb 1 c)
  | .sf _ => SFc m ρ (nb 0 c)
  | .out _ _ _ => OUTc m ρ (zc c)

/-- The share of its source a copy under way holds. -/
def lentQ : X → PosShare TreeShare
  | .pf _ => fullShare.left
  | .sf _ => fullShare.left
  | .ag _ _ _ => fullShare

def landC (c : Dev nD) : (t : X) → (bufR (dstB t)).ty.Contents (Elt F)
  | .pf j => rawC m ρ c (.pf j)
  | .sf j => rawC m ρ c (.sf j)
  | .ag d h j => valC m ρ c (.out d h.succ j)

def payS (c : Dev nD) (t : X) : sProp 𝕄 := bp c (srcB t) (lentQ t) (valC m ρ c (srcB t))
def payR (c : Dev nD) (t : X) : sProp 𝕄 := bp c (dstB t) fullShare (landC m ρ c t)

/-- The memory copy `t` writes at its target. -/
def dstP (c : Dev nD) (t : X) : sProp 𝕄 := iprop(∃ f, bp (F := F) (tgt c t) (dstB t) fullShare f)

/-- A list of assertions, all together. -/
def sepL : List (sProp 𝕄) → sProp 𝕄
  | [] => iprop(emp)
  | P :: Ps => iprop(P ∗ sepL Ps)

theorem sepL_storable (Ps : List (sProp 𝕄)) (h : ∀ P ∈ Ps, BI.Storable (upEmb : UEmb _ 𝕄) P) :
    BI.Storable (upEmb : UEmb _ 𝕄) (sepL Ps) := by
  induction Ps with
  | nil => unfold sepL; infer_instance
  | cons P Ps ih =>
    unfold sepL
    haveI := h P (List.mem_cons_self ..)
    haveI := ih fun Q hQ => h Q (List.mem_cons_of_mem _ hQ)
    infer_instance

/-- What the signal of neighbour `k` of device `c` hands `c`. -/
def barPay (c : Dev nD) (k : Fin 4) : sProp 𝕄 := sepL ((gotT (zc c) k).map fun t => dstP (F := F) c t)

instance payS_storable (c : Dev nD) (t : X) : BI.Storable (upEmb : UEmb _ 𝕄) (payS (F := F) m ρ c t) := by unfold payS; infer_instance
instance payR_storable (c : Dev nD) (t : X) : BI.Storable (upEmb : UEmb _ 𝕄) (payR (F := F) m ρ c t) := by unfold payR; infer_instance
instance dstP_storable (c : Dev nD) (t : X) : BI.Storable (upEmb : UEmb _ 𝕄) (dstP (F := F) c t) := by unfold dstP; infer_instance
instance barPay_storable (c : Dev nD) (k : Fin 4) : BI.Storable (upEmb : UEmb _ 𝕄) (barPay (F := F) c k) := by
  unfold barPay
  refine sepL_storable _ fun P hP => ?_
  obtain ⟨t, -, rfl⟩ := List.mem_map.mp hP
  infer_instance

/-! ## The schedule of signals -/

/-- One round: the barrier has one signal of each neighbour, of one unit; a copy's end and arrival one each, of what the
    copy counts by, where the copy is made. -/
def Rd : Rounds.Schedule (GSem nD τ sig) (Fin 4) 𝕄 where
  duties g r := if r = 0 ∧ g.1.2 = .tc then
      (match g.2 with
        | .reg s => if s = barS then Finset.univ else ∅
        | .dma s => match decode s with
          | some (false, t) => if active (zc g.1.1) t then {0} else ∅
          | some (true, t) => if activeR (zc g.1.1) t then {0} else ∅
          | none => ∅)
    else ∅
  unitless _ := False
  amount g _ _ := match g.2 with
    | .reg _ => 1
    | .dma s => match decode s with
      | some (_, t) => NX t
      | none => 1
  payload g _ d := match g.2 with
    | .reg _ => barPay g.1.1 d
    | .dma s => match decode s with
      | some (false, t) => payS m ρ g.1.1 t
      | some (true, t) => payR m ρ g.1.1 t
      | none => iprop(emp)
  amount_pos g _ _ _ := by
    rcases g.2 with s | s
    · exact Nat.one_pos
    · show 0 < (match decode s with | some (_, t) => NX t | none => 1)
      rcases decode s with _ | ⟨_, t⟩
      · exact Nat.one_pos
      · exact NX_pos t

instance Rd_storable (g : GSem nD τ sig) (r : ℕ) (d : Fin 4) : BI.Storable (upEmb : UEmb _ 𝕄) ((Rd (F := F) m ρ).payload g r d) := by
  show BI.Storable upEmb (match g.2 with
    | .reg _ => barPay g.1.1 d
    | .dma s => match decode s with
      | some (false, t) => payS m ρ g.1.1 t
      | some (true, t) => payR m ρ g.1.1 t
      | none => iprop(emp))
  rcases g.2 with s | s
  · infer_instance
  · show BI.Storable upEmb (match decode s with
      | some (false, t) => payS m ρ g.1.1 t
      | some (true, t) => payR m ρ g.1.1 t
      | none => iprop(emp))
    rcases decode s with _ | ⟨_ | _, t⟩ <;> infer_instance

section Sched
variable (c : Dev nD) (t : X)

theorem duties_bar : (Rd (F := F) m ρ).duties (barC c) 0 = Finset.univ := by
  dsimp only [Rd]; rw [if_pos ⟨rfl, rfl⟩]; exact if_pos rfl
theorem duties_snd : (Rd (F := F) m ρ).duties (sndC c t) 0 = if active (zc c) t then {0} else ∅ := by
  dsimp only [Rd]; rw [if_pos ⟨rfl, rfl⟩, decode_ssem]
theorem duties_rcv : (Rd (F := F) m ρ).duties (rcvC c t) 0 = if activeR (zc c) t then {0} else ∅ := by
  dsimp only [Rd]; rw [if_pos ⟨rfl, rfl⟩, decode_rsem]
theorem duties_later (g : GSem nD τ sig) : ∀ r, 1 ≤ r → (Rd (F := F) m ρ).duties g r = ∅ :=
  fun r hr => by dsimp only [Rd]; exact if_neg fun h => by omega
theorem duties_idle_snd (h : active (zc c) t = false) : ∀ r, 0 ≤ r → (Rd (F := F) m ρ).duties (sndC c t) r = ∅ := fun r _ => by
  rcases Nat.eq_zero_or_pos r with rfl | hr
  · rw [duties_snd, h]; rfl
  · exact duties_later m ρ _ r hr
theorem duties_idle_rcv (h : activeR (zc c) t = false) : ∀ r, 0 ≤ r → (Rd (F := F) m ρ).duties (rcvC c t) r = ∅ := fun r _ => by
  rcases Nat.eq_zero_or_pos r with rfl | hr
  · rw [duties_rcv, h]; rfl
  · exact duties_later m ρ _ r hr

theorem amount_bar (d : Fin 4) : (Rd (F := F) m ρ).amount (barC c) 0 d = 1 := rfl
theorem amount_snd (d : Fin 4) : (Rd (F := F) m ρ).amount (sndC c t) 0 d = NX t := by dsimp only [Rd]; rw [decode_ssem]
theorem amount_rcv (d : Fin 4) : (Rd (F := F) m ρ).amount (rcvC c t) 0 d = NX t := by dsimp only [Rd]; rw [decode_rsem]

theorem expect_bar : (Rd (F := F) m ρ).expect (barC c) 0 = 4 := by
  unfold Schedule.expect Schedule.amountOf
  rw [duties_bar, Finset.sum_congr rfl fun d _ => amount_bar m ρ c d, Finset.sum_const, Finset.card_univ, Fintype.card_fin, smul_eq_mul]
theorem expect_snd (h : active (zc c) t = true) : (Rd (F := F) m ρ).expect (sndC c t) 0 = NX t := by
  unfold Schedule.expect Schedule.amountOf; rw [duties_snd, h, if_pos rfl, Finset.sum_singleton, amount_snd]
theorem expect_rcv (h : activeR (zc c) t = true) : (Rd (F := F) m ρ).expect (rcvC c t) 0 = NX t := by
  unfold Schedule.expect Schedule.amountOf; rw [duties_rcv, h, if_pos rfl, Finset.sum_singleton, amount_rcv]

theorem payload_bar (d : Fin 4) : (Rd (F := F) m ρ).payload (barC c) 0 d = barPay c d := rfl
theorem payload_snd (d : Fin 4) : (Rd (F := F) m ρ).payload (sndC c t) 0 d = payS m ρ c t := by dsimp only [Rd]; rw [decode_ssem]
theorem payload_rcv (d : Fin 4) : (Rd (F := F) m ρ).payload (rcvC c t) 0 d = payR m ρ c t := by dsimp only [Rd]; rw [decode_rsem]

theorem rest_bar : bigSep ((Rd (F := F) m ρ).duties (barC c) 0 \ ∅) (fun d => (Rd (F := F) m ρ).payload (barC c) 0 d)
    = iprop(barPay c 0 ∗ barPay c 1 ∗ barPay c 2 ∗ barPay c 3) := by
  rw [Finset.sdiff_empty, duties_bar]
  exact bigSep_univ_eq_bigSepL [(0 : Fin 4), 1, 2, 3] (by decide) (by decide) _
theorem rest_snd (h : active (zc c) t = true) :
    bigSep ((Rd (F := F) m ρ).duties (sndC c t) 0 \ ∅) (fun d => (Rd (F := F) m ρ).payload (sndC c t) 0 d) = payS m ρ c t := by
  rw [Finset.sdiff_empty, duties_snd, h, if_pos rfl, bigSep_singleton, payload_snd]
theorem rest_rcv (h : activeR (zc c) t = true) :
    bigSep ((Rd (F := F) m ρ).duties (rcvC c t) 0 \ ∅) (fun d => (Rd (F := F) m ρ).payload (rcvC c t) 0 d) = payR m ρ c t := by
  rw [Finset.sdiff_empty, duties_rcv, h, if_pos rfl, bigSep_singleton, payload_rcv]

end Sched

end Cert.AllReduce

end
-- ==== Proof.State.lean ====
/- What the rights of the plan mean on a device, and what it is for a program to make the plan's steps. -/
module

public import proofs.«01_k».proof.Proof.Cells

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

abbrev 𝒱₀ : Variants := Variants.none

/-! ## Levels -/

def L (g : GSem nD τ sig) : Finset Unit := if g.1.2 = .tc then {()} else ∅
/-- Barriers at 1, arrivals by the order of their waits, everything else at 0. -/
def lv (g : GSem nD τ sig) (_ : Unit) : ℕ :=
  match g.2 with
  | .reg _ => 1
  | .dma s => match decode s with
    | some (true, t) => lev (zc g.1.1) t
    | _ => 0

theorem L_tc (c : Dev nD) (sm : SemLoc sig) : L ((c : Thread nD τ), sm) = {()} := if_pos rfl
theorem lv_bar (c : Dev nD) : lv (barC c) () = 1 := rfl
theorem lv_snd (c : Dev nD) (t : X) : lv (sndC c t) () = 0 := by dsimp only [lv]; rw [decode_ssem]
theorem lv_rcv (c : Dev nD) (t : X) : lv (rcvC c t) () = lev (zc c) t := by dsimp only [lv]; rw [decode_rsem]

/-! ## What the rights mean -/

section
variable (c : Dev nD)

/-- What a device owes along with a right. -/
def owe1 : Res → CellTallies nD τ sig Unit
  | .btok i => tallyAt (barC (nb i c)) () 1
  | .tok t => tallyAt (rcvC (tgt c t) t) () (NX t)
  | _ => 0
def owed : List Res → CellTallies nD τ sig Unit
  | [] => 0
  | r :: σ => owed σ + owe1 c r

def interp : Res → sProp 𝕄
  | .btok i => dutyTok ER (barC (nb i c)) 0 (opp i)
  | .bpos => atPos ER (barC c) 0 ∅ 0
  | .bposD => atPos ER (barC c) 1 ∅ 0
  | .bcr => cred (tallyAt (barC c) () 4)
  | .tok t => iprop(dutyTok ER (sndC c t) 0 0 ∗ dutyTok ER (rcvC (tgt c t) t) 0 0)
  | .spos t => atPos ER (sndC c t) 0 ∅ 0
  | .sposD t => atPos ER (sndC c t) 1 ∅ 0
  | .scr t => cred (tallyAt (sndC c t) () (NX t))
  | .rpos t => atPos ER (rcvC c t) 0 ∅ 0
  | .rposD t => atPos ER (rcvC c t) 1 ∅ 0
  | .rcr t => cred (tallyAt (rcvC c t) () (NX t))
  | .dst t => dstP c t
  | .junk b => iprop(∃ f, bp c b fullShare f)
  | .val b => bp c b fullShare (valC m ρ c b)
  | .raw b => bp c b fullShare (rawC m ρ c b)
  | .half b => bp c b fullShare.right (valC m ρ c b)

/-- The rights of a list, together. -/
abbrev all (σ : List Res) : sProp 𝕄 := sepL (σ.map (interp m ρ c))

end

theorem sepL_append (Ps Qs : List (sProp 𝕄)) : (sepL (Ps ++ Qs) : sProp 𝕄) = iprop(sepL Ps ∗ sepL Qs) := by
  induction Ps with
  | nil => exact (BI.Entails.antisymm (by show sepL Qs ⊢ iprop(emp ∗ sepL Qs); iintro H; isplitr; · iempintro
                                          iexact H) (by show iprop(emp ∗ sepL Qs) ⊢ sepL Qs; iintro ⟨-, H⟩; iexact H))
  | cons P Ps ih =>
    show iprop(P ∗ sepL (Ps ++ Qs)) = iprop((P ∗ sepL Ps) ∗ sepL Qs)
    rw [ih]
    exact BI.Entails.antisymm (by show iprop(P ∗ sepL Ps ∗ sepL Qs) ⊢ iprop((P ∗ sepL Ps) ∗ sepL Qs)
                                  iintro ⟨A, B, C⟩; isplitl [A B]; · (isplitl [A] <;> iassumption)
                                  iexact C)
      (by show iprop((P ∗ sepL Ps) ∗ sepL Qs) ⊢ iprop(P ∗ sepL Ps ∗ sepL Qs)
          iintro ⟨⟨A, B⟩, C⟩; isplitl [A]; · iexact A
          isplitl [B] <;> iassumption)

theorem sepL_perm {Ps Qs : List (sProp 𝕄)} (h : Ps.Perm Qs) : (sepL Ps : sProp 𝕄) ⊢ sepL Qs := by
  induction h with
  | nil => exact BI.Entails.refl _
  | cons P _ ih => exact BI.Laws.sep_mono_right ih
  | swap P Q Ps =>
    show iprop(Q ∗ P ∗ sepL Ps) ⊢ iprop(P ∗ Q ∗ sepL Ps)
    iintro ⟨A, B, C⟩
    isplitl [B]; · iexact B
    isplitl [A] <;> iassumption
  | trans _ _ h1 h2 => exact h1.trans h2

section
variable (c : Dev nD)

theorem owed_append (σ τ : List Res) : owed c (σ ++ τ) = owed c τ + owed c σ := by
  induction σ with
  | nil => show owed c τ = owed c τ + 0; rw [add_zero]
  | cons r σ ih => show owed c (σ ++ τ) + owe1 c r = owed c τ + (owed c σ + owe1 c r); rw [ih, add_assoc]

theorem owed_perm {σ τ : List Res} (h : σ.Perm τ) : owed c σ = owed c τ := by
  induction h with
  | nil => rfl
  | cons r _ ih => show owed c _ + _ = owed c _ + _; rw [ih]
  | swap a b σ => show owed c σ + owe1 c a + owe1 c b = owed c σ + owe1 c b + owe1 c a; rw [add_assoc, add_comm (owe1 c a), add_assoc]
  | trans _ _ h1 h2 => exact h1.trans h2

theorem owed_zero {σ : List Res} (h : ∀ r ∈ σ, owe1 c r = 0) : owed c σ = 0 := by
  induction σ with
  | nil => rfl
  | cons r σ ih =>
    show owed c σ + owe1 c r = 0
    rw [ih fun r hr => h r (List.mem_cons_of_mem _ hr), h r (List.mem_cons_self ..), add_zero]

/-- What is owed, above level `n`. -/
theorem owed_above {σ : List Res} {n : ℕ} (h : σ.all (above (zc c) n) = true) {g : GSem nD τ sig} {u : Unit} (hg : 0 < owed c σ g u) :
    ∃ t, g = rcvC (tgt c t) t ∧ n < lev (tgtz (zc c) t) t := by
  induction σ with
  | nil => exact absurd hg (Nat.lt_irrefl 0)
  | cons r σ ih =>
    rw [List.all_cons, Bool.and_eq_true] at h
    by_cases h0 : 0 < owed c σ g u
    · exact ih h.2 h0
    · have hr : 0 < owe1 c r g u := by
        have : owed c (r :: σ) g u = owed c σ g u + owe1 c r g u := rfl
        omega
      have hz : ¬ 0 < (0 : CellTallies nD τ sig Unit) g u := Nat.lt_irrefl 0
      cases r with
      | btok i => exact absurd h.1 Bool.false_ne_true
      | tok t =>
        refine ⟨t, ?_, of_decide_eq_true h.1⟩
        change 0 < tallyAt (rcvC (tgt c t) t) () (NX t) g u at hr
        rw [tallyAt_apply] at hr
        by_contra hn
        rw [if_neg fun h' => hn h'.1] at hr
        exact Nat.lt_irrefl 0 hr
      | _ => exact absurd hr hz

theorem mayWait (sm : SemLoc sig) (n : ℕ) (hn : lv ((c : Thread nD τ), sm) () = n) {σ : List Res} (h : σ.all (above (zc c) n) = true) :
    (levAts L lv : sProp 𝕄) ⊢ MayWait (c : Thread nD τ) sm () (owed c σ) :=
  MayOwe.of_cut (L := L) (lev := lv) n (fun p hp => by rw [Finset.mem_singleton.mp hp, L_tc]; exact Finset.mem_singleton_self _)
    (fun g u hg => by obtain ⟨t, rfl, -⟩ := owed_above c h hg; exact Finset.mem_singleton_self _)
    (fun p hp => by rw [Finset.mem_singleton.mp hp]; exact hn.le)
    (fun g u hg => by
      obtain ⟨t, rfl, ht⟩ := owed_above c h hg
      show n < lv (rcvC (tgt c t) t) ()
      rw [lv_rcv, zc_tgt]; exact ht)

end

/-! ## The state of a run -/

variable (K : Dev nD × CI → ℕ)

/-- What stays true throughout: the semaphores' invariants, under the names `K`; that each is at its first round; the levels. -/
def recs : sProp 𝕄 :=
  iprop((bigSep Finset.univ fun ck : Dev nD × CI => cellInv ER (Rd (F := F) m ρ) (K ck) (kcell ck))
    ∗ (bigSep Finset.univ fun ck : Dev nD × CI => (reached ER (kcell ck) 0 : sProp 𝕄)) ∗ levAts L lv)

instance recs_persistent : BI.Persistent (recs (F := F) m ρ K) := by unfold recs; infer_instance

theorem recs_inv (ck : Dev nD × CI) : recs (F := F) m ρ K ⊢ cellInv ER (Rd (F := F) m ρ) (K ck) (kcell ck) := by
  have e : (bigSep Finset.univ fun ck : Dev nD × CI => cellInv ER (Rd (F := F) m ρ) (K ck) (kcell ck)) ⊢ cellInv ER (Rd (F := F) m ρ) (K ck) (kcell ck) :=
    bigSep_elim (Finset.mem_univ ck)
  unfold recs; iintro ⟨H, -, -⟩
  iapply e $$ H
theorem recs_reached (ck : Dev nD × CI) : recs (F := F) m ρ K ⊢ reached ER (kcell ck) 0 := by
  have e : (bigSep Finset.univ fun ck : Dev nD × CI => (reached ER (kcell ck) 0 : sProp 𝕄)) ⊢ reached ER (kcell ck) 0 :=
    bigSep_elim (Finset.mem_univ ck)
  unfold recs; iintro ⟨-, H, -⟩
  iapply e $$ H
theorem recs_lev : recs (F := F) m ρ K ⊢ (levAts L lv : sProp 𝕄) := by unfold recs; iintro ⟨-, -, H⟩; iexact H

variable (c : Dev nD)

def xs : sProp 𝕄 := iprop(((c : Thread nD τ).loc cc0_stg0_0) ↦{fullShare} xstg m ρ c)
def owesS (σ : List Res) : sProp 𝕄 := iprop(∃ W : Waits sig Unit, owes (c : Thread nD τ) (owed c σ) W)

/-- Device `c` mid-run, with the rights `σ`. -/
def St (σ : List Res) : sProp 𝕄 := iprop(recs m ρ K ∗ owesS c σ ∗ xs m ρ c ∗ all m ρ c σ)

theorem St_perm {σ τ : List Res} (h : σ.Perm τ) : St m ρ K c σ ⊢ St m ρ K c τ := by
  unfold St owesS
  rw [owed_perm c h]
  iintro ⟨H1, H2, H3, H4⟩
  isplitl [H1]; · iexact H1
  isplitl [H2]; · iexact H2
  isplitl [H3]; · iexact H3
  iapply (sepL_perm (h.map (interp m ρ c))) $$ H4

/-- Taking rights `υ` out, and putting them back. -/
theorem St_open (υ σ : List Res) : St m ρ K c (υ ++ σ)
    = iprop(recs m ρ K ∗ (∃ W : Waits sig Unit, owes (c : Thread nD τ) (owed c σ + owed c υ) W) ∗ xs m ρ c ∗ all m ρ c υ ∗ all m ρ c σ) := by
  unfold St owesS all
  rw [owed_append, List.map_append, sepL_append]

/-! ## Steps, and runs of them -/

abbrev wpc {α : Type} (P : Prog (TpuEff nD τ sig (Elt F) Λ₀ .tc) α) (Q : α → sProp 𝕄) : sProp 𝕄 :=
  wp frame (wpE (defs₀ (F := F)) 𝒱₀ (c : Thread nD τ) none) Set.univ P Q

/-- Program `P` makes the step `o` and goes on as `k`. -/
def Steps {α : Type} (o : Op) (P k : Prog (TpuEff nD τ sig (Elt F) Λ₀ .tc) α) : Prop :=
  ∀ (σ : List Res), ok (zc c) σ o = true → ∀ Q : α → sProp 𝕄,
    (St m ρ K c (post (zc c) o ++ σ) ⊢ wpc c k Q) → St m ρ K c (pre (zc c) o ++ σ) ⊢ wpc c P Q

/-- Program `P` makes the steps `os` and returns a value for which `R`. -/
def Does {α : Type} (os : List Op) (P : Prog (TpuEff nD τ sig (Elt F) Λ₀ .tc) α) (R : α → Prop) : Prop :=
  ∀ (σ σ' : List Res) (Q : α → sProp 𝕄), run (zc c) os σ = some σ' → (∀ v, R v → St m ρ K c σ' ⊢ Q v) → St m ρ K c σ ⊢ wpc c P Q

theorem take_perm {r : Res} {σ τ : List Res} (h : take r σ = some τ) : σ.Perm (r :: τ) := by
  induction σ generalizing τ with
  | nil => cases h
  | cons a σ ih =>
    rw [take] at h
    by_cases ha : a = r
    · rw [if_pos ha] at h; cases h; rw [ha]
    · rw [if_neg ha] at h
      cases ht : take r σ with
      | none => rw [ht] at h; cases h
      | some υ =>
        rw [ht] at h; cases h
        exact ((ih ht).cons a).trans (List.Perm.swap r a υ)

theorem takeAll_perm {rs σ τ : List Res} (h : takeAll rs σ = some τ) : σ.Perm (rs ++ τ) := by
  induction rs generalizing σ with
  | nil => cases h; exact List.Perm.refl _
  | cons r rs ih =>
    rw [takeAll] at h
    cases ht : take r σ with
    | none => rw [ht] at h; cases h
    | some υ =>
      rw [ht] at h
      exact (take_perm ht).trans ((ih h).cons r)

variable {m ρ K c}

theorem Does.ret {α : Type} {v : α} {R : α → Prop} (h : R v) : Does (F := F) m ρ K c [] (.ret v) R := fun σ σ' Q hr hQ => by
  cases hr
  refine (hQ v h).trans ?_
  show Q v ⊢ iprop(|={Set.univ}[frame]=> Q v)
  iintro H; imodintro; iexact H

theorem Does.mono {α : Type} {os : List Op} {P : Prog (TpuEff nD τ sig (Elt F) Λ₀ .tc) α} {R R' : α → Prop} (h : Does (F := F) m ρ K c os P R)
    (hR : ∀ v, R v → R' v) : Does m ρ K c os P R' := fun σ σ' Q hr hQ => h σ σ' Q hr fun v hv => hQ v (hR v hv)

theorem Does.bind {α β : Type} {os os' : List Op} {P : Prog (TpuEff nD τ sig (Elt F) Λ₀ .tc) α} {f : α → Prog (TpuEff nD τ sig (Elt F) Λ₀ .tc) β}
    {R : α → Prop} {R' : β → Prop} (hP : Does (F := F) m ρ K c os P R) (hf : ∀ v, R v → Does m ρ K c os' (f v) R') :
    Does m ρ K c (os ++ os') (P >>= f) R' := fun σ σ' Q hr hQ => by
  rw [run_append] at hr
  cases h1 : run (zc c) os σ with
  | none => rw [h1] at hr; cases hr
  | some υ =>
    rw [h1] at hr
    show _ ⊢ wp frame (wpE (defs₀ (F := F)) 𝒱₀ (c : Thread nD τ) none) Set.univ (P >>= f) Q
    rw [wp_bind]
    exact hP σ υ _ h1 fun v hv => hf v hv υ σ' Q hr hQ

theorem Does.cons {α : Type} {o : Op} {os : List Op} {P k : Prog (TpuEff nD τ sig (Elt F) Λ₀ .tc) α} {R : α → Prop}
    (hs : Steps (F := F) m ρ K c o P k) (hk : Does m ρ K c os k R) : Does m ρ K c (o :: os) P R := fun σ σ' Q hr hQ => by
  rw [run] at hr
  unfold step at hr
  cases h1 : takeAll (pre (zc c) o) σ with
  | none => rw [h1] at hr; cases hr
  | some τ =>
    rw [h1, Option.bind_some] at hr
    by_cases ho : ok (zc c) τ o = true
    · rw [if_pos ho] at hr
      exact (St_perm m ρ K c (takeAll_perm h1)).trans (hs τ ho Q (hk _ σ' Q hr hQ))
    · rw [if_neg ho] at hr; cases hr

/-- A step that is skipped off its guard. -/
theorem Does.dite {α : Type} {b : Bool} {os : List Op} {C : Prop} [Decidable C] {t : C → Prog (TpuEff nD τ sig (Elt F) Λ₀ .tc) α}
    {e : ¬ C → Prog (TpuEff nD τ sig (Elt F) Λ₀ .tc) α} {R : α → Prop} (hb : C ↔ b = true) (ht : ∀ h, Does (F := F) m ρ K c os (t h) R)
    (he : ∀ h, Does m ρ K c [] (e h) R) : Does m ρ K c (g b os) (if h : C then t h else e h) R := by
  by_cases h : C
  · rw [dif_pos h, g, if_pos (hb.mp h)]; exact ht h
  · rw [dif_neg h, g, if_neg fun hb' => h (hb.mpr hb')]; exact he h

end Cert.AllReduce

end
-- ==== Proof.Value.lean ====
/- What each store of the kernel leaves in the memory it writes, index by index. -/
module

public import proofs.«01_k».proof.Proof.Cells

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 shapeCast_ab_1ab_apply shapeCast_1ab_ab_apply)
open Idealize.ShloMosaic.Pipeline (Dat Cfg Window BodyObligation cellOf)

variable {F : FTy → Type} [FloatOps F]
variable (m : (ℓ : Loc nD τ sig) → Buf (Elt F) ℓ) (ρ : Dev nD → PrngReg)

/-! ## The rectangles -/

set_option backward.proofsInPublic true in
/-- Index `(r, k)` of a block of 512 rows, out of an index of a slot. -/
abbrev cut (y : S1x512x1024.Idx) : S512x1024.Idx := ix2 (⟨(y 1).val, (y 1).isLt⟩ : Fin 512) (⟨(y 2).val, (y 2).isLt⟩ : Fin 1024)
set_option backward.proofsInPublic true in
abbrev grow (y : S512x1024.Idx) : S1x512x1024.Idx := ix3 (0 : Fin 1) (⟨(y 0).val, (y 0).isLt⟩ : Fin 512) (⟨(y 1).val, (y 1).isLt⟩ : Fin 1024)

theorem grow_cut (y : S1x512x1024.Idx) : grow (cut y) = y := by
  funext a
  match a with
  | 0 => exact (Fin.ext (by have h : (y 0).val < 1 := (y 0).isLt; show 0 = (y 0).val; omega))
  | 1 => rfl
  | 2 => rfl
theorem ix2_self (y : S512x1024.Idx) : (ix2 (⟨(y 0).val, (y 0).isLt⟩ : Fin 512) (⟨(y 1).val, (y 1).isLt⟩ : Fin 1024) : S512x1024.Idx) = y := by
  funext a
  match a with
  | 0 => rfl
  | 1 => rfl

abbrev rowsR (off : Fin 2 → ℕ) (inb : ∀ a, off a + S512x1024.size a ≤ S8192x1024.size a) : Rect S8192x1024 :=
  Rect.unit (s := S8192x1024) off S512x1024.size inb

theorem slotRow_emb (q j : Fin 4) (off : Fin 2 → ℕ) (inb) (h : off = ![2048 * q.val + 512 * j.val, 0]) (y : S1x512x1024.Idx) :
    slotRow q ((slotR j).emb y) = (rowsR off inb).emb (cut y) := by
  subst h
  have h0 : (y 0).val < 1 := (y 0).isLt
  funext a
  match a with
  | 0 => exact Fin.ext (by
      show 2048 * q.val + 512 * (j.val + 1 * (y 0).val) + (0 + 1 * (y 1).val) = 2048 * q.val + 512 * j.val + 1 * (y 1).val
      omega)
  | 1 => exact Fin.ext (by show 0 + 1 * (y 2).val = 0 + 1 * (y 2).val; rfl)

/-! ## What the stores hold, index by index -/

theorem pay_init (v : Vec F S512x1024 .bf16) (y : S1x512x1024.Idx) : k0_pay1 v y = v (cut y) := by
  have h : k0_pay1 v (grow (cut y)) = v (cut y) := by
    unfold k0_pay1
    refine (shapeCast_ab_1ab_apply _ _ _ _ _).trans ?_
    rw [shapeCast_self]
  rwa [grow_cut] at h

theorem pay_acc (a : Vec F S1x512x1024 .bf16) (v : Vec F S512x1024 .bf16) (y : S1x512x1024.Idx) :
    k0_pay9 a v y = FloatOps.addf (a y) (v (cut y)) := by
  have h : k0_pay9 a v (grow (cut y)) = FloatOps.addf (a (grow (cut y))) (v (cut y)) := by
    unfold k0_pay9
    refine (shapeCast_ab_1ab_apply _ _ _ _ _).trans ?_
    show FloatOps.addf (shapeCast S512x1024 a _ (cut y)) (shapeCast S512x1024 v _ (cut y)) = _
    rw [shapeCast_self]
    exact congrArg (fun t => FloatOps.addf t _) (shapeCast_1ab_ab_apply _ _ _ _)
  rwa [grow_cut] at h

theorem pay_out (a : Vec F S1x512x1024 .bf16) (y : S512x1024.Idx) : k0_pay14 a y = a (grow y) := by
  have h : k0_pay14 a (ix2 (⟨(y 0).val, (y 0).isLt⟩ : Fin 512) (⟨(y 1).val, (y 1).isLt⟩ : Fin 1024)) = a (grow y) := by
    unfold k0_pay14
    exact shapeCast_1ab_ab_apply _ _ _ _
  rwa [ix2_self] at h

theorem pay_sum (a b : Vec F S1x512x1024 .bf16) (y : S512x1024.Idx) : k0_pay13 a b y = FloatOps.addf (a (grow y)) (b (grow y)) := by
  rw [← pay_out a y, ← pay_out b y]; rfl

/-! ## The contents after each store -/

section Stores
variable (c : Dev nD) (j : Fin 4) (off : Fin 2 → ℕ) (inb : ∀ a, off a + S512x1024.size a ≤ S8192x1024.size a)
  (hoff : off = ![2048 * (qc c).val + 512 * j.val, 0])

abbrev xrows : Vec F S512x1024 .bf16 := A0.view.readAt (Elt F) (rowsR off inb).toLoadRect (xstg m ρ c)
abbrev slot2 (f : (cc0_scratch0 : Ref sig .tc).ty.Contents (Elt F)) : Vec F S1x512x1024 .bf16 := A2.view.readAt (Elt F) (slotR j).toLoadRect f
abbrev slot3 (f : (cc0_scratch1 : Ref sig .tc).ty.Contents (Elt F)) : Vec F S1x512x1024 .bf16 := A3.view.readAt (Elt F) (slotR j).toLoadRect f

theorem xrows_apply (y : S512x1024.Idx) : xrows m ρ c off inb y = xstg m ρ c ((rowsR off inb).emb y) := rfl
theorem slot2_apply (f) (y : S1x512x1024.Idx) : slot2 (F := F) j f y = f ((slotR j).emb y) := rfl
theorem slot3_apply (f) (y : S1x512x1024.Idx) : slot3 (F := F) j f y = f ((slotR j).emb y) := rfl

theorem mem_slot {i : S4x512x1024.Idx} (hi : i ∈ (slotR j).set) : ∃ y : S1x512x1024.Idx, i = (slotR j).emb y := by
  rw [← Rect.map_emb_univ] at hi
  obtain ⟨y, -, rfl⟩ := Finset.mem_map.mp hi
  exact ⟨y, rfl⟩
theorem mem_rows {i : S8192x1024.Idx} (hi : i ∈ (rowsR off inb).set) : ∃ y : S512x1024.Idx, i = (rowsR off inb).emb y := by
  rw [← Rect.map_emb_univ] at hi
  obtain ⟨y, -, rfl⟩ := Finset.mem_map.mp hi
  exact ⟨y, rfl⟩

theorem write_slot2 (f : (cc0_scratch0 : Ref sig .tc).ty.Contents (Elt F)) (w : Vec F S1x512x1024 .bf16) (y : S1x512x1024.Idx) :
    (A2.access (slotR j)).write (Elt F) f w Finset.univ ((slotR j).emb y) = w y :=
  View.write_emb_of_mem (v := A2.access (slotR j)) f w (Finset.mem_univ y)
theorem write_slot3 (f : (cc0_scratch1 : Ref sig .tc).ty.Contents (Elt F)) (w : Vec F S1x512x1024 .bf16) (y : S1x512x1024.Idx) :
    (A3.access (slotR j)).write (Elt F) f w Finset.univ ((slotR j).emb y) = w y :=
  View.write_emb_of_mem (v := A3.access (slotR j)) f w (Finset.mem_univ y)
theorem write_rows (f : (cc0_stg1_0 : Ref sig .tc).ty.Contents (Elt F)) (w : Vec F S512x1024 .bf16) (y : S512x1024.Idx) :
    (A1.access (rowsR off inb)).write (Elt F) f w Finset.univ ((rowsR off inb).emb y) = w y :=
  View.write_emb_of_mem (v := A1.access (rowsR off inb)) f w (Finset.mem_univ y)

include hoff

theorem init_pf (hz : zc c = 0) (f) : ∀ i ∈ (slotR j).set,
    (A2.access (slotR j)).write (Elt F) f (k0_pay1 (xrows m ρ c off inb)) Finset.univ i = PFc m ρ c i := by
  intro i hi
  obtain ⟨y, rfl⟩ := mem_slot j hi
  rw [write_slot2, pay_init, xrows_apply]
  unfold PFc
  rw [slotRow_emb (qc c) j off inb hoff, hz, up]
  exact congrArg (fun d => xstg m ρ d _) (by rw [← hz, dv_zc])
theorem init_sf (hz : zc c = 3) (f) : ∀ i ∈ (slotR j).set,
    (A3.access (slotR j)).write (Elt F) f (k0_pay1 (xrows m ρ c off inb)) Finset.univ i = SFc m ρ c i := by
  intro i hi
  obtain ⟨y, rfl⟩ := mem_slot j hi
  rw [write_slot3, pay_init, xrows_apply]
  unfold SFc
  rw [slotRow_emb (qc c) j off inb hoff, hz, dn]
  exact congrArg (fun d => xstg m ρ d _) (by rw [← hz, dv_zc])

theorem acc_pf (hz : zc c ≠ 0) (f) : ∀ i ∈ (slotR j).set,
    (A2.access (slotR j)).write (Elt F) f (k0_pay9 (slot2 j (PFc m ρ (nb 1 c))) (xrows m ρ c off inb)) Finset.univ i = PFc m ρ c i := by
  intro i hi
  obtain ⟨y, rfl⟩ := mem_slot j hi
  have hq : qc (nb 1 c) = qc c := qc_dv _ _
  have hz' : zc (nb 1 c) = zc c - 1 := zc_dv _ _
  rw [write_slot2, pay_acc, xrows_apply, slot2_apply]
  unfold PFc
  rw [hq, hz', slotRow_emb (qc c) j off inb hoff, up_step m ρ (qc c) (zc c) hz, dv_zc]
  rfl
theorem acc_sf (hz : zc c ≠ 3) (f) : ∀ i ∈ (slotR j).set,
    (A3.access (slotR j)).write (Elt F) f (k0_pay9 (slot3 j (SFc m ρ (nb 0 c))) (xrows m ρ c off inb)) Finset.univ i = SFc m ρ c i := by
  intro i hi
  obtain ⟨y, rfl⟩ := mem_slot j hi
  have hq : qc (nb 0 c) = qc c := qc_dv _ _
  have hz' : zc (nb 0 c) = zc c + 1 := zc_dv _ _
  rw [write_slot3, pay_acc, xrows_apply, slot3_apply]
  unfold SFc
  rw [hq, hz', slotRow_emb (qc c) j off inb hoff, dn_step m ρ (qc c) (zc c) hz, dv_zc]
  rfl

theorem OUTc_rows (z : Fin 4) (y : S512x1024.Idx) :
    OUTc m ρ z ((rowsR off inb).emb y) = tot m ρ z (qc c) j.val ((rowsR off inb).emb y) := by
  have hy : (y 0).val < 512 := (y 0).isLt
  have hq : (qc c).val < 4 := (qc c).isLt
  have hv : ((rowsR off inb).emb y 0).val = 2048 * (qc c).val + 512 * j.val + (y 0).val := by
    subst hoff; show 2048 * (qc c).val + 512 * j.val + 1 * (y 0).val = _; omega
  have hj := j.isLt
  unfold OUTc
  refine congrFun (congr (congrArg (tot m ρ z) (Fin.ext ?_)) ?_) _
  · show ((rowsR off inb).emb y 0).val / 2048 = _; rw [hv]; omega
  · show ((rowsR off inb).emb y 0).val % 2048 / 512 = _; rw [hv]; omega

/-- The slots' contents at the rows they stand for. -/
theorem slot2_rows (d : Dev nD) (hd : qc d = qc c) (y : S512x1024.Idx) :
    slot2 j (PFc m ρ d) (grow y) = up m ρ (qc c) (zc d) ((rowsR off inb).emb y) := by
  rw [slot2_apply]; unfold PFc
  rw [hd, slotRow_emb (qc c) j off inb hoff]
  exact congrArg (fun y => up m ρ (qc c) (zc d) ((rowsR off inb).emb y)) (ix2_self y)
theorem slot3_rows (d : Dev nD) (hd : qc d = qc c) (y : S512x1024.Idx) :
    slot3 j (SFc m ρ d) (grow y) = dn m ρ (qc c) (zc d) ((rowsR off inb).emb y) := by
  rw [slot3_apply]; unfold SFc
  rw [hd, slotRow_emb (qc c) j off inb hoff]
  exact congrArg (fun y => dn m ρ (qc c) (zc d) ((rowsR off inb).emb y)) (ix2_self y)

theorem sum_lo (hj : j.val < 2) (hz : zc c ≠ 3) (f) : ∀ i ∈ (rowsR off inb).set,
    (A1.access (rowsR off inb)).write (Elt F) f (k0_pay13 (slot2 j (PFc m ρ c)) (slot3 j (SFc m ρ (nb 0 c)))) Finset.univ i = OUTc m ρ (zc c) i := by
  intro i hi
  obtain ⟨y, rfl⟩ := mem_rows off inb hi
  rw [write_rows, pay_sum, OUTc_rows m ρ c j off inb hoff, slot2_rows m ρ c j off inb hoff c rfl, slot3_rows m ρ c j off inb hoff (nb 0 c) (qc_dv _ _),
    tot, if_pos hj, if_neg hz, show zc (nb 0 c) = zc c + 1 from zc_dv _ _]
  rfl
theorem sum_hi (hj : ¬ j.val < 2) (hz : zc c ≠ 0) (f) : ∀ i ∈ (rowsR off inb).set,
    (A1.access (rowsR off inb)).write (Elt F) f (k0_pay13 (slot2 j (PFc m ρ (nb 1 c))) (slot3 j (SFc m ρ c))) Finset.univ i = OUTc m ρ (zc c) i := by
  intro i hi
  obtain ⟨y, rfl⟩ := mem_rows off inb hi
  rw [write_rows, pay_sum, OUTc_rows m ρ c j off inb hoff, slot2_rows m ρ c j off inb hoff (nb 1 c) (qc_dv _ _), slot3_rows m ρ c j off inb hoff c rfl,
    tot, if_neg hj, if_neg hz, show zc (nb 1 c) = zc c - 1 from zc_dv _ _]
  rfl
theorem top_pf (hj : j.val < 2) (hz : zc c = 3) (f) : ∀ i ∈ (rowsR off inb).set,
    (A1.access (rowsR off inb)).write (Elt F) f (k0_pay14 (slot2 j (PFc m ρ c))) Finset.univ i = OUTc m ρ (zc c) i := by
  intro i hi
  obtain ⟨y, rfl⟩ := mem_rows off inb hi
  rw [write_rows, pay_out, OUTc_rows m ρ c j off inb hoff, slot2_rows m ρ c j off inb hoff c rfl, tot, if_pos hj, if_pos hz, hz]
theorem top_sf (hj : ¬ j.val < 2) (hz : zc c = 0) (f) : ∀ i ∈ (rowsR off inb).set,
    (A1.access (rowsR off inb)).write (Elt F) f (k0_pay14 (slot3 j (SFc m ρ c))) Finset.univ i = OUTc m ρ (zc c) i := by
  intro i hi
  obtain ⟨y, rfl⟩ := mem_rows off inb hi
  rw [write_rows, pay_out, OUTc_rows m ρ c j off inb hoff, slot3_rows m ρ c j off inb hoff c rfl, tot, if_neg hj, if_pos hz, hz]

/-- A chunk's rows are its two halves'. -/
theorem rows_union : (rowsR off inb).set = (outR c 0 0 j).set ∪ (outR c 1 0 j).set := by
  have hb : ∀ (c : Dev nD) (d : Fin 2) (j : Fin 4), 256 * (blk c d 0 j).val = 2048 * (qc c).val + 512 * j.val + 256 * d.val := by decide
  ext i
  have h1 : (i 1).val < 1024 := (i 1).isLt
  rw [Finset.mem_union, Rect.mem_set_unit, Rect.mem_set_unit, Rect.mem_set_unit, outOff_eq, outOff_eq, hb, hb, hoff]
  constructor
  · intro h
    have h0 := h 0
    change 2048 * (qc c).val + 512 * j.val ≤ (i 0).val ∧ (i 0).val < 2048 * (qc c).val + 512 * j.val + 512 at h0
    by_cases hl : (i 0).val < 2048 * (qc c).val + 512 * j.val + 256
    · left; intro a
      match a with
      | 0 => exact ⟨by show 2048 * (qc c).val + 512 * j.val + 256 * 0 ≤ (i 0).val; omega, by show (i 0).val < 2048 * (qc c).val + 512 * j.val + 256 * 0 + 256; omega⟩
      | 1 => exact ⟨Nat.zero_le _, by show (i 1).val < 0 + 1024; omega⟩
    · right; intro a
      match a with
      | 0 => exact ⟨by show 2048 * (qc c).val + 512 * j.val + 256 * 1 ≤ (i 0).val; omega, by show (i 0).val < 2048 * (qc c).val + 512 * j.val + 256 * 1 + 256; omega⟩
      | 1 => exact ⟨Nat.zero_le _, by show (i 1).val < 0 + 1024; omega⟩
  · rintro (h | h) a
    · have h0 := h 0
      change 2048 * (qc c).val + 512 * j.val + 256 * 0 ≤ (i 0).val ∧ (i 0).val < 2048 * (qc c).val + 512 * j.val + 256 * 0 + 256 at h0
      match a with
      | 0 => exact ⟨by show 2048 * (qc c).val + 512 * j.val ≤ (i 0).val; omega, by show (i 0).val < 2048 * (qc c).val + 512 * j.val + 512; omega⟩
      | 1 => exact ⟨Nat.zero_le _, by show (i 1).val < 0 + 1024; omega⟩
    · have h0 := h 0
      change 2048 * (qc c).val + 512 * j.val + 256 * 1 ≤ (i 0).val ∧ (i 0).val < 2048 * (qc c).val + 512 * j.val + 256 * 1 + 256 at h0
      match a with
      | 0 => exact ⟨by show 2048 * (qc c).val + 512 * j.val ≤ (i 0).val; omega, by show (i 0).val < 2048 * (qc c).val + 512 * j.val + 512; omega⟩
      | 1 => exact ⟨Nat.zero_le _, by show (i 1).val < 0 + 1024; omega⟩

end Stores

/-- The two halves of a chunk share no row; nor do two blocks of 256 rows. -/
theorem out_disjoint (c : Dev nD) {d d' : Fin 2} {o o' j j' : Fin 4} (h : blk c d o j ≠ blk c d' o' j') :
    Disjoint (outR c d o j).set (outR c d' o' j').set := by
  rw [Finset.disjoint_left]
  intro i hi hi'
  have h1 : i ∈ (outR c d o j).set := hi
  have h2 : i ∈ (outR c d' o' j').set := hi'
  rw [Rect.mem_set_unit, outOff_eq] at h1 h2
  have h1 := h1 0
  have h2 := h2 0
  change 256 * (blk c d o j).val ≤ (i 0).val ∧ (i 0).val < 256 * (blk c d o j).val + 256 at h1
  change 256 * (blk c d' o' j').val ≤ (i 0).val ∧ (i 0).val < 256 * (blk c d' o' j').val + 256 at h2
  exact h (Fin.ext (by omega))

end Cert.AllReduce

end
-- ==== Proof.Steps.lean ====
/- The steps that signal and wait: each makes the trade the plan lists for it. -/
module

public import proofs.«01_k».proof.Proof.State
public import proofs.«01_k».proof.Proof.Value

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {m ρ}
variable {K : Dev nD × CI → ℕ} {c : Dev nD}

/-! ## Opening and closing the state where nothing is owed -/

def quiet : Res → Bool
  | .btok _ => false
  | .tok _ => false
  | _ => true

theorem owed_quiet {σ : List Res} (h : σ.all quiet = true) : owed c σ = 0 :=
  owed_zero c fun r hr => by
    have := List.all_eq_true.mp h r hr
    cases r with
    | btok i => cases this
    | tok t => cases this
    | _ => rfl

theorem St_quiet {υ : List Res} (h : υ.all quiet = true) (σ : List Res) :
    St (F := F) m ρ K c (υ ++ σ) = iprop(recs m ρ K ∗ owesS c σ ∗ xs m ρ c ∗ all m ρ c υ ∗ all m ρ c σ) := by
  rw [St_open, owed_quiet h, add_zero]; rfl

theorem quiet_dsts (ts : List X) : (ts.map Res.dst).all quiet = true := by
  rw [List.all_eq_true]; intro r hr
  obtain ⟨t, -, rfl⟩ := List.mem_map.mp hr; rfl
theorem quiet_kept (t : X) : (keptB t).all quiet = true := by cases t <;> rfl
theorem quiet_land (t : X) : [Res.rposD t, landB t].all quiet = true := by cases t <;> rfl

/-! ## The invariants -/

theorem recs_bar (d : Dev nD) : recs (F := F) m ρ K ⊢ cellInv ER (Rd (F := F) m ρ) (K (d, .bar)) (barC d) := recs_inv m ρ K (d, .bar)
theorem recs_snd (d : Dev nD) (t : X) : recs (F := F) m ρ K ⊢ cellInv ER (Rd (F := F) m ρ) (K (d, .snd t)) (sndC d t) := recs_inv m ρ K (d, .snd t)
theorem recs_rcv (d : Dev nD) (t : X) : recs (F := F) m ρ K ⊢ cellInv ER (Rd (F := F) m ρ) (K (d, .rcv t)) (rcvC d t) := recs_inv m ρ K (d, .rcv t)
theorem reached_bar (d : Dev nD) : recs (F := F) m ρ K ⊢ reached ER (barC d) 0 := recs_reached m ρ K (d, .bar)
theorem reached_snd (d : Dev nD) (t : X) : recs (F := F) m ρ K ⊢ reached ER (sndC d t) 0 := recs_reached m ρ K (d, .snd t)
theorem reached_rcv (d : Dev nD) (t : X) : recs (F := F) m ρ K ⊢ reached ER (rcvC d t) 0 := recs_reached m ρ K (d, .rcv t)

set_option maxRecDepth 20000 in
theorem recs_mayWait (sm : SemLoc sig) (n : ℕ) (hn : lv ((c : Thread nD τ), sm) () = n) {σ : List Res} (h : σ.all (above (zc c) n) = true) :
    recs (F := F) m ρ K ⊢ MayWait (c : Thread nD τ) sm () (owed c σ) := by
  have h1 := recs_lev (F := F) m ρ K
  have h2 := mayWait (F := F) c sm n hn h
  exact BI.Entails.trans h1 h2

/-! ## The barrier -/

theorem dirX_gotT : ∀ (z k : Fin 4), ∀ t ∈ gotT z k, dirX t = k := by decide

/-- The memory a device hands with its signal to neighbour `i` is what that neighbour's copies to it write. -/
theorem give_bar (i : Fin 4) (c : Dev nD) :
    all (F := F) m ρ c ((gotT (nbz (zc c) i) (opp i)).map fun t => Res.junk (dstB t)) ⊢ barPay (F := F) (nb i c) (opp i) := by
  unfold barPay all
  rw [zc_nb, List.map_map]
  have : (gotT (nbz (zc c) i) (opp i)).map (interp (F := F) m ρ c ∘ fun t => Res.junk (dstB t))
      = (gotT (nbz (zc c) i) (opp i)).map fun t => dstP (F := F) (nb i c) t := by
    refine List.map_congr_left fun t ht => ?_
    show iprop(∃ f, bp (F := F) c (dstB t) fullShare f) = dstP (nb i c) t
    unfold dstP tgt
    rw [dirX_gotT _ _ t ht, nb_opp]
  rw [this]

theorem quiet_give (ts : List X) : (ts.map fun t => Res.junk (dstB t)).all quiet = true := by
  rw [List.all_eq_true]; intro r hr
  obtain ⟨t, -, rfl⟩ := List.mem_map.mp hr; rfl

theorem take_bar (c : Dev nD) : iprop(barPay (F := F) c 0 ∗ barPay c 1 ∗ barPay c 2 ∗ barPay c 3)
    ⊢ all m ρ c ((gotT (zc c) 0 ++ gotT (zc c) 1 ++ gotT (zc c) 2 ++ gotT (zc c) 3).map Res.dst) := by
  have h : ∀ k, all (F := F) m ρ c ((gotT (zc c) k).map Res.dst) = barPay c k := fun k => by
    unfold all barPay; rw [List.map_map]; rfl
  unfold all
  rw [List.map_append, List.map_append, List.map_append, List.map_append, List.map_append, List.map_append, sepL_append, sepL_append, sepL_append]
  unfold all at h
  rw [h, h, h, h]
  iintro ⟨A, B, C, D⟩
  isplitl [A B C]
  · isplitl [A B]
    · isplitl [A] <;> iassumption
    · iexact C
  · iexact D

theorem land_eq (c : Dev nD) (t : X) : payR (F := F) m ρ c t = interp m ρ c (landB t) := by
  cases t <;> rfl

/-- What is kept of a source and what its copy held are the source again. -/
theorem unlend (c : Dev nD) (t : X) : iprop(payS (F := F) m ρ c t ∗ all m ρ c (keptB t)) ⊣⊢ bp c (srcB t) fullShare (valC m ρ c (srcB t)) := by
  cases t with
  | pf j =>
    show iprop(bp (F := F) c (.pf j) fullShare.left (valC m ρ c (.pf j)) ∗ bp c (.pf j) fullShare.right (valC m ρ c (.pf j)) ∗ emp) ⊣⊢ bp c (.pf j) fullShare (valC m ρ c (.pf j))
    have h := pointsTo_share (ℓ := (c : Thread nD τ).loc (bufR (.pf j))) (I := bset c (.pf j)) (f := valC (F := F) m ρ c (.pf j)) (Ix := Unit) (Name := ℕ) (U := UU) (Lvl := ℕ) (PosShare.mem_left_op_right fullShare)
    unfold bp
    exact ⟨by iintro ⟨A, B, -⟩; iapply h.2; (isplitl [A] <;> iassumption), by iintro H; ihave H' := h.1 $$ H; icases H' with ⟨A, B⟩; isplitl [A]; · iexact A
                                                                              isplitl [B]; · iexact B
                                                                              iempintro⟩
  | sf j =>
    show iprop(bp (F := F) c (.sf j) fullShare.left (valC m ρ c (.sf j)) ∗ bp c (.sf j) fullShare.right (valC m ρ c (.sf j)) ∗ emp) ⊣⊢ bp c (.sf j) fullShare (valC m ρ c (.sf j))
    have h := pointsTo_share (ℓ := (c : Thread nD τ).loc (bufR (.sf j))) (I := bset c (.sf j)) (f := valC (F := F) m ρ c (.sf j)) (Ix := Unit) (Name := ℕ) (U := UU) (Lvl := ℕ) (PosShare.mem_left_op_right fullShare)
    unfold bp
    exact ⟨by iintro ⟨A, B, -⟩; iapply h.2; (isplitl [A] <;> iassumption), by iintro H; ihave H' := h.1 $$ H; icases H' with ⟨A, B⟩; isplitl [A]; · iexact A
                                                                              isplitl [B]; · iexact B
                                                                              iempintro⟩
  | ag d h j =>
    show iprop(bp (F := F) c (.out d h.castSucc j) fullShare _ ∗ emp) ⊣⊢ bp c (.out d h.castSucc j) fullShare _
    exact ⟨by iintro ⟨A, -⟩; iexact A, by iintro A; isplitl [A]; · iexact A
                                          iempintro⟩

/-! ## A step by what it takes and gives -/

theorem Steps.of_owing {α : Type} {o : Op} {P k : Prog (TpuEff nD τ sig (Elt F) Λ₀ .tc) α} (X : CellTallies nD τ sig Unit) (A B : sProp 𝕄)
    (hX : owed c (pre (zc c) o) = X) (hA : all m ρ c (pre (zc c) o) ⊢ A) (hq : (post (zc c) o).all quiet = true) (hB : B ⊢ all m ρ c (post (zc c) o))
    (h : ∀ (σ : List Res) (W : Waits sig Unit) (Q : α → sProp 𝕄), ok (zc c) σ o = true →
      iprop(recs m ρ K ∗ owes (c : Thread nD τ) (owed c σ + X) W ∗ xs m ρ c ∗ A)
        ⊢ iprop((((∃ W' : Waits sig Unit, owes (c : Thread nD τ) (owed c σ) W') ∗ xs m ρ c ∗ B) -∗ wpc c k Q) -∗ wpc c P Q)) :
    Steps m ρ K c o P k := by
  intro σ hok Q hQ
  rw [St_open, hX]
  rw [St_quiet hq] at hQ
  unfold owesS at hQ
  iintro ⟨#HR, ⟨%W, HO⟩, HX, Hp, Hσ⟩
  iapply (h σ W Q hok) $$ [HO HX Hp]
  · isplitr; · iexact HR
    isplitl [HO]; · iexact HO
    isplitl [HX]; · iexact HX
    iapply hA $$ Hp
  iintro ⟨HO, HX, HB⟩
  iapply hQ
  isplitr; · iexact HR
  isplitl [HO]; · iexact HO
  isplitl [HX]; · iexact HX
  isplitl [HB]; · (iapply hB $$ HB)
  iexact Hσ

theorem Steps.of_quiet {α : Type} {o : Op} {P k : Prog (TpuEff nD τ sig (Elt F) Λ₀ .tc) α} (A B : sProp 𝕄)
    (hp : (pre (zc c) o).all quiet = true) (hA : all m ρ c (pre (zc c) o) ⊢ A) (hq : (post (zc c) o).all quiet = true) (hB : B ⊢ all m ρ c (post (zc c) o))
    (h : ∀ (σ : List Res) (W : Waits sig Unit) (Q : α → sProp 𝕄), ok (zc c) σ o = true →
      iprop(recs m ρ K ∗ owes (c : Thread nD τ) (owed c σ) W ∗ xs m ρ c ∗ A)
        ⊢ iprop((((∃ W' : Waits sig Unit, owes (c : Thread nD τ) (owed c σ) W') ∗ xs m ρ c ∗ B) -∗ wpc c k Q) -∗ wpc c P Q)) :
    Steps m ρ K c o P k :=
  Steps.of_owing 0 A B (owed_quiet hp) hA hq hB fun σ W Q hok => by rw [add_zero]; exact h σ W Q hok

section
variable {α : Type} {k : PUnit → Prog (TpuEff nD τ sig (Elt F) Λ₀ .tc) α}

theorem step_sig (i : Fin 4) {n : Dev nD} (hn : n = nb i c) {a : ℕ} (ha : a = 1) :
    Steps (F := F) m ρ K c (.sig i) (.op (.semSignal (Dev.tc n : Thread nD τ) barS a) k) (k ⟨⟩) := by
  subst hn ha
  refine Steps.of_owing (tallyAt (barC (nb i c)) () 1) iprop(dutyTok ER (barC (nb i c)) 0 (opp i) ∗ barPay (nb i c) (opp i)) iprop(emp)
    (by show owed c ((gotT (nbz (zc c) i) (opp i)).map fun t => Res.junk (dstB t)) + _ = _
        rw [owed_quiet (quiet_give _), zero_add]; rfl)
    (BI.Laws.sep_mono_right (give_bar i c)) rfl (BI.Entails.refl _) ?_
  intro σ W Q _
  iintro ⟨#HR, HO, HX, Ht, Hg⟩ Hk
  iapply (Rounds.wp_signal 𝒱₀ ER (Rd m ρ) (c : Thread nD τ) none (dst := (nb i c : Thread nD τ)) (κ := K (nb i c, .bar))
      (d := opp i) (by rw [duties_bar]; exact Finset.mem_univ _) (amount_bar m ρ (nb i c) (opp i)) () (owed c σ) rfl)
    $$ [HO Ht Hg]
  · isplitr; · iapply (recs_bar (nb i c)) $$ HR
    isplitl [HO]; · iexact HO
    isplitl [Ht]; · iexact Ht
    isplitl [Hg]; · (rw [payload_bar]; iexact Hg)
    iapply (reached_bar (nb i c)) $$ HR
  iintro HO
  iapply Hk
  isplitl [HO]; · (iexists W; iexact HO)
  isplitl [HX]; · iexact HX
  iempintro

theorem step_bwait {a : ℕ} (ha : a = 4) :
    Steps (F := F) m ρ K c .bwait (.op (.semWait barS a) k) (k ⟨⟩) := by
  subst ha
  refine Steps.of_quiet iprop(atPos ER (barC c) 0 ∅ 0 ∗ cred (tallyAt (barC c) () 4) ∗ emp)
    iprop(atPos ER (barC c) 1 ∅ 0 ∗ barPay c 0 ∗ barPay c 1 ∗ barPay c 2 ∗ barPay c 3)
    rfl (BI.Entails.refl _) (quiet_dsts _) (BI.Laws.sep_mono_right (take_bar c)) ?_
  intro σ W Q hok
  iintro ⟨#HR, HO, HX, Hp, Hc, -⟩ Hk
  iapply (Rounds.wp_wait_rest_token 𝒱₀ ER (Rd m ρ) (c : Thread nD τ) none (κ := K (c, .bar))
      (wpE_semWait_eq 𝒱₀ (c : Thread nD τ) none Set.univ) (Set.mem_univ _) () (O := owed c σ) (W := W) (R := 0) (m := 0) (T := ∅)
      (by rw [expect_bar])) $$ [Hc HO Hp]
  · isplitr; · iapply (recs_bar c) $$ HR
    isplitl [Hc]; · iexact Hc
    isplitl [HO]; · iexact HO
    isplitr; · iapply (recs_mayWait (K := K) (.reg barS) 1 rfl hok) $$ HR
    iexact Hp
  iintro ⟨HO, Hp, -, Hpay⟩
  ihave Hg := (Entails.of_eq (rest_bar m ρ c)) $$ Hpay
  iapply Hk
  isplitl [HO]; · (iexists (insert (_, ()) W); iexact HO)
  isplitl [HX]; · iexact HX
  isplitl [Hp]; · iexact Hp
  iexact Hg

theorem step_recv (t : X) {s : DmaSem sig} (hs : s = rsem t) {sp₁ sp₂ : Space} {s₁ s₂ : Shape} {e₁ e₂ : EltTy}
    {m₁ : Memref sig .tc sp₁ s₁ e₁} {m₂ : Memref sig .tc sp₂ s₂ e₂} {h₁ h₂}
    (hN : m₂.view.dmaCredit = NX t) :
    Steps (F := F) m ρ K c (.recv t) (.op (.waitDma2 s m₁ m₂ h₁ h₂) k) (k ⟨⟩) := by
  subst hs
  refine Steps.of_quiet iprop(atPos ER (rcvC c t) 0 ∅ 0 ∗ cred (tallyAt (rcvC c t) () (NX t)) ∗ emp)
    iprop(atPos ER (rcvC c t) 1 ∅ 0 ∗ payR m ρ c t ∗ emp) rfl (BI.Entails.refl _) (quiet_land t) (by rw [land_eq]; exact BI.Entails.refl _) ?_
  intro σ W Q hok
  have hok' := Bool.and_eq_true_iff.mp hok
  rw [← hN]
  iintro ⟨#HR, HO, HX, Hp, Hc, -⟩ Hk
  iapply (Rounds.wp_wait_rest_token 𝒱₀ ER (Rd m ρ) (c : Thread nD τ) none (κ := K (c, .rcv t))
      (wpE_waitDma2_eq 𝒱₀ (c : Thread nD τ) none Set.univ) (Set.mem_univ _) () (O := owed c σ) (W := W) (R := 0) (m := 0) (T := ∅)
      (by rw [expect_rcv m ρ c t hok'.1, Nat.zero_add, hN])) $$ [Hc HO Hp]
  · isplitr; · iapply (recs_rcv c t) $$ HR
    isplitl [Hc]; · iexact Hc
    isplitl [HO]; · iexact HO
    isplitr; · iapply (recs_mayWait (K := K) (.dma (rsem t)) _ (lv_rcv c t) hok'.2) $$ HR
    iexact Hp
  iintro ⟨HO, Hp, -, Hpay⟩
  ihave Hg := (Entails.of_eq (rest_rcv m ρ c t hok'.1)) $$ Hpay
  iapply Hk
  isplitl [HO]; · (iexists (insert (_, ()) W); iexact HO)
  isplitl [HX]; · iexact HX
  isplitl [Hp]; · iexact Hp
  isplitl [Hg]; · iexact Hg
  iempintro

theorem step_wsend (t : X) {s : DmaSem sig} (hs : s = ssem t) {sp₁ sp₂ : Space} {s₁ s₂ : Shape} {e₁ e₂ : EltTy}
    {m₁ : Memref sig .tc sp₁ s₁ e₁} {m₂ : Memref sig .tc sp₂ s₂ e₂} {h₁ h₂}
    (hN : m₂.view.dmaCredit = NX t) :
    Steps (F := F) m ρ K c (.wsend t) (.op (.waitDma2 s m₁ m₂ h₁ h₂) k) (k ⟨⟩) := by
  subst hs
  refine Steps.of_quiet iprop(atPos ER (sndC c t) 0 ∅ 0 ∗ cred (tallyAt (sndC c t) () (NX t)) ∗ all m ρ c (keptB t))
    iprop(atPos ER (sndC c t) 1 ∅ 0 ∗ bp c (srcB t) fullShare (valC m ρ c (srcB t)) ∗ emp)
    (quiet_kept t) (BI.Entails.refl _) rfl (BI.Entails.refl _) ?_
  intro σ W Q hok
  have hok' := Bool.and_eq_true_iff.mp hok
  rw [← hN]
  iintro ⟨#HR, HO, HX, Hp, Hc, Hkept⟩ Hk
  iapply (Rounds.wp_wait_rest_token 𝒱₀ ER (Rd m ρ) (c : Thread nD τ) none (κ := K (c, .snd t))
      (wpE_waitDma2_eq 𝒱₀ (c : Thread nD τ) none Set.univ) (Set.mem_univ _) () (O := owed c σ) (W := W) (R := 0) (m := 0) (T := ∅)
      (by rw [expect_snd m ρ c t hok'.1, Nat.zero_add, hN])) $$ [Hc HO Hp]
  · isplitr; · iapply (recs_snd c t) $$ HR
    isplitl [Hc]; · iexact Hc
    isplitl [HO]; · iexact HO
    isplitr; · iapply (recs_mayWait (K := K) (.dma (ssem t)) 0 (lv_snd c t) hok'.2) $$ HR
    iexact Hp
  iintro ⟨HO, Hp, -, Hpay⟩
  ihave Hg := (Entails.of_eq (rest_snd m ρ c t hok'.1)) $$ Hpay
  iapply Hk
  isplitl [HO]; · (iexists (insert (_, ()) W); iexact HO)
  isplitl [HX]; · iexact HX
  isplitl [Hp]; · iexact Hp
  isplitl [Hg Hkept]
  · iapply (unlend c t).1
    isplitl [Hg] <;> iassumption
  iempintro

end

end Cert.AllReduce

end
-- ==== Proof.Moves.lean ====
/- The steps that load, store and copy: each makes the trade the plan lists for it. -/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {m ρ}
variable {K : Dev nD × CI → ℕ} {c : Dev nD}

/-! ## Parts of memory as the loads and stores name them -/

abbrev pfP (c : Dev nD) (j : Fin 4) (q : PosShare TreeShare) (f : Buf (Elt F) (A2.view.loc (c : Thread nD τ))) : sProp 𝕄 :=
  iprop(A2.view.loc (c : Thread nD τ) ↦[(slotR j).set]{q} f)
abbrev sfP (c : Dev nD) (j : Fin 4) (q : PosShare TreeShare) (f : Buf (Elt F) (A3.view.loc (c : Thread nD τ))) : sProp 𝕄 :=
  iprop(A3.view.loc (c : Thread nD τ) ↦[(slotR j).set]{q} f)
abbrev outP (c : Dev nD) (d : Fin 2) (o j : Fin 4) (q : PosShare TreeShare) (f : Buf (Elt F) (A1.view.loc (c : Thread nD τ))) : sProp 𝕄 :=
  iprop(A1.view.loc (c : Thread nD τ) ↦[(outR c d o j).set]{q} f)
abbrev rowsP (c : Dev nD) (off : Fin 2 → ℕ) (inb : ∀ a, off a + S512x1024.size a ≤ S8192x1024.size a) (f : Buf (Elt F) (A1.view.loc (c : Thread nD τ))) : sProp 𝕄 :=
  iprop(A1.view.loc (c : Thread nD τ) ↦[(rowsR off inb).set]{fullShare} f)
theorem xs_eq (c : Dev nD) : xs (F := F) m ρ c = (A0.view.loc (c : Thread nD τ) ↦[Finset.univ]{fullShare} xstg m ρ c : sProp 𝕄) := rfl

theorem on2 (j : Fin 4) : A2.view.setOn (slotR j).toLoadRect.set ⊆ (slotR j).set := by
  intro i hi; obtain ⟨y, hy, rfl⟩ := Finset.mem_map.mp hi; exact hy
theorem on3 (j : Fin 4) : A3.view.setOn (slotR j).toLoadRect.set ⊆ (slotR j).set := by
  intro i hi; obtain ⟨y, hy, rfl⟩ := Finset.mem_map.mp hi; exact hy
theorem on1 (off : Fin 2 → ℕ) (inb) : A1.view.setOn (rowsR off inb).toLoadRect.set ⊆ (rowsR off inb).set := by
  intro i hi; obtain ⟨y, hy, rfl⟩ := Finset.mem_map.mp hi; exact hy
theorem ac2 (j : Fin 4) : (A2.access (slotR j)).setOn Finset.univ ⊆ (slotR j).set := by
  intro i hi; obtain ⟨y, hy, rfl⟩ := Finset.mem_map.mp hi
  rw [← Rect.map_emb_univ]; exact Finset.mem_map_of_mem _ hy
theorem ac3 (j : Fin 4) : (A3.access (slotR j)).setOn Finset.univ ⊆ (slotR j).set := by
  intro i hi; obtain ⟨y, hy, rfl⟩ := Finset.mem_map.mp hi
  rw [← Rect.map_emb_univ]; exact Finset.mem_map_of_mem _ hy
theorem ac1 (off : Fin 2 → ℕ) (inb) : (A1.access (rowsR off inb)).setOn Finset.univ ⊆ (rowsR off inb).set := by
  intro i hi; obtain ⟨y, hy, rfl⟩ := Finset.mem_map.mp hi
  rw [← Rect.map_emb_univ]; exact Finset.mem_map_of_mem _ hy

/-- A chunk of the result, as its two halves, at any contents and at the contents meant for it. -/
theorem halves_disjoint : ∀ (c : Dev nD) (j : Fin 4), blk c 0 0 j ≠ blk c 1 0 j := by decide

theorem rows_join (c : Dev nD) (j : Fin 4) (off : Fin 2 → ℕ) (inb) (hoff : off = ![2048 * (qc c).val + 512 * j.val, 0]) :
    all (F := F) m ρ c (outs j .junk) ⊢ iprop(∃ f, rowsP c off inb f) := by
  show iprop((∃ f, outP (F := F) c 0 0 j fullShare f) ∗ (∃ f, outP (F := F) c 1 0 j fullShare f) ∗ emp) ⊢ _
  unfold rowsP
  rw [rows_union c j off inb hoff]
  have hd : Disjoint (outR c 0 0 j).set (outR c 1 0 j).set := out_disjoint c (halves_disjoint c j)
  iintro ⟨⟨%f, A⟩, ⟨%g, B⟩, -⟩
  iexists _
  iapply (pointsTo_join (ℓ := A1.view.loc (c : Thread nD τ)) (I := (outR c 0 0 j).set) (J := (outR c 1 0 j).set) (f := f) (g := g) (q := fullShare) hd)
  isplitl [A] <;> iassumption

theorem rows_cut (c : Dev nD) (j : Fin 4) (off : Fin 2 → ℕ) (inb) (hoff : off = ![2048 * (qc c).val + 512 * j.val, 0])
    (f : Buf (Elt F) (A1.view.loc (c : Thread nD τ))) (hf : ∀ i ∈ (rowsR off inb).set, f i = OUTc m ρ (zc c) i) :
    rowsP c off inb f ⊢ all (F := F) m ρ c (outs j .val) := by
  have hd : Disjoint (outR c 0 0 j).set (outR c 1 0 j).set := out_disjoint c (halves_disjoint c j)
  have h1 : rowsP (F := F) c off inb f = rowsP c off inb (OUTc m ρ (zc c)) := pointsTo_congr hf
  have h2 : rowsP (F := F) c off inb (OUTc m ρ (zc c)) ⊢ iprop(outP c 0 0 j fullShare (OUTc m ρ (zc c)) ∗ outP c 1 0 j fullShare (OUTc m ρ (zc c))) := by
    unfold rowsP
    rw [rows_union c j off inb hoff]
    exact (pointsTo_union hd).1
  rw [h1]
  refine h2.trans ?_
  show _ ⊢ iprop(outP c 0 0 j fullShare (OUTc m ρ (zc c)) ∗ outP c 1 0 j fullShare (OUTc m ρ (zc c)) ∗ emp)
  iintro ⟨A, B⟩
  isplitl [A]; · iexact A
  isplitl [B]; · iexact B
  iempintro

section
variable {α : Type} {k : PUnit → Prog (TpuEff nD τ sig (Elt F) Λ₀ .tc) α}
variable (j : Fin 4) (off : Fin 2 → ℕ) (inb : ∀ a, off a + S512x1024.size a ≤ S8192x1024.size a)
  (hoff : off = ![2048 * (qc c).val + 512 * j.val, 0])
include hoff

/-! ## The first sums: a block copied in, a block added -/

theorem step_initPf (P : Vec F S512x1024 .bf16 → FVec F S1x512x1024 .bf16) (hP : P = k0_pay1) {hl₀ hl₂ hx hm} :
    Steps (F := F) m ρ K c (.initPf j)
      (.op (.load A0 (rowsR off inb).toLoadRect hl₀) fun v => .op (.load A2 (slotR j).toLoadRect hl₂) fun _ =>
        .op (.store A2 (slotR j) (P v) Finset.univ hx hm) k) (k ⟨⟩) := by
  subst hP
  refine Steps.of_quiet iprop((∃ f, pfP (F := F) c j fullShare f) ∗ emp) iprop(pfP c j fullShare (PFc m ρ c) ∗ emp)
    rfl (BI.Entails.refl _) rfl (BI.Entails.refl _) ?_
  intro σ W Q hok
  have hz : zc c = 0 := of_decide_eq_true hok
  rw [xs_eq]
  iintro ⟨#HR, HO, HX, ⟨%f, Hb⟩, -⟩ Hk
  iapply (wp_load 𝒱₀ (c : Thread nD τ) none Set.univ (m := A0) (Finset.subset_univ _)) $$ HX; iintro HX
  iapply (wp_load 𝒱₀ (c : Thread nD τ) none Set.univ (m := A2) (on2 j)) $$ Hb; iintro Hb
  iapply (wp_store 𝒱₀ (c : Thread nD τ) none Set.univ (m := A2) (r := slotR j) (Mk := Finset.univ) (ac2 j)) $$ Hb; iintro Hb
  iapply Hk
  isplitl [HO]; · (iexists W; iexact HO)
  isplitl [HX]; · iexact HX
  isplitl [Hb]
  · iapply (Entails.of_eq (pointsTo_congr (init_pf m ρ c j off inb hoff hz f))) $$ Hb
  iempintro

theorem step_initSf (P : Vec F S512x1024 .bf16 → FVec F S1x512x1024 .bf16) (hP : P = k0_pay1) {hl₀ hl₂ hx hm} :
    Steps (F := F) m ρ K c (.initSf j)
      (.op (.load A0 (rowsR off inb).toLoadRect hl₀) fun v => .op (.load A3 (slotR j).toLoadRect hl₂) fun _ =>
        .op (.store A3 (slotR j) (P v) Finset.univ hx hm) k) (k ⟨⟩) := by
  subst hP
  refine Steps.of_quiet iprop((∃ f, sfP (F := F) c j fullShare f) ∗ emp) iprop(sfP c j fullShare (SFc m ρ c) ∗ emp)
    rfl (BI.Entails.refl _) rfl (BI.Entails.refl _) ?_
  intro σ W Q hok
  have hz : zc c = 3 := of_decide_eq_true hok
  rw [xs_eq]
  iintro ⟨#HR, HO, HX, ⟨%f, Hb⟩, -⟩ Hk
  iapply (wp_load 𝒱₀ (c : Thread nD τ) none Set.univ (m := A0) (Finset.subset_univ _)) $$ HX; iintro HX
  iapply (wp_load 𝒱₀ (c : Thread nD τ) none Set.univ (m := A3) (on3 j)) $$ Hb; iintro Hb
  iapply (wp_store 𝒱₀ (c : Thread nD τ) none Set.univ (m := A3) (r := slotR j) (Mk := Finset.univ) (ac3 j)) $$ Hb; iintro Hb
  iapply Hk
  isplitl [HO]; · (iexists W; iexact HO)
  isplitl [HX]; · iexact HX
  isplitl [Hb]
  · iapply (Entails.of_eq (pointsTo_congr (init_sf m ρ c j off inb hoff hz f))) $$ Hb
  iempintro

theorem step_accPf (P : Vec F S1x512x1024 .bf16 → Vec F S512x1024 .bf16 → FVec F S1x512x1024 .bf16) (hP : P = k0_pay9) {hl₀ hl₁ hl₂ hx hm} :
    Steps (F := F) m ρ K c (.accPf j)
      (.op (.load A2 (slotR j).toLoadRect hl₁) fun a => .op (.load A0 (rowsR off inb).toLoadRect hl₀) fun v =>
        .op (.load A2 (slotR j).toLoadRect hl₂) fun _ => .op (.store A2 (slotR j) (P a v) Finset.univ hx hm) k) (k ⟨⟩) := by
  subst hP
  refine Steps.of_quiet iprop(pfP c j fullShare (PFc m ρ (nb 1 c)) ∗ emp) iprop(pfP c j fullShare (PFc m ρ c) ∗ emp)
    rfl (BI.Entails.refl _) rfl (BI.Entails.refl _) ?_
  intro σ W Q hok
  have hz : zc c ≠ 0 := of_decide_eq_true hok
  rw [xs_eq]
  iintro ⟨#HR, HO, HX, Hb, -⟩ Hk
  iapply (wp_load 𝒱₀ (c : Thread nD τ) none Set.univ (m := A2) (on2 j)) $$ Hb; iintro Hb
  iapply (wp_load 𝒱₀ (c : Thread nD τ) none Set.univ (m := A0) (Finset.subset_univ _)) $$ HX; iintro HX
  iapply (wp_load 𝒱₀ (c : Thread nD τ) none Set.univ (m := A2) (on2 j)) $$ Hb; iintro Hb
  iapply (wp_store 𝒱₀ (c : Thread nD τ) none Set.univ (m := A2) (r := slotR j) (Mk := Finset.univ) (ac2 j)) $$ Hb; iintro Hb
  iapply Hk
  isplitl [HO]; · (iexists W; iexact HO)
  isplitl [HX]; · iexact HX
  isplitl [Hb]
  · iapply (Entails.of_eq (pointsTo_congr (acc_pf m ρ c j off inb hoff hz _))) $$ Hb
  iempintro

theorem step_accSf (P : Vec F S1x512x1024 .bf16 → Vec F S512x1024 .bf16 → FVec F S1x512x1024 .bf16) (hP : P = k0_pay9) {hl₀ hl₁ hl₂ hx hm} :
    Steps (F := F) m ρ K c (.accSf j)
      (.op (.load A3 (slotR j).toLoadRect hl₁) fun a => .op (.load A0 (rowsR off inb).toLoadRect hl₀) fun v =>
        .op (.load A3 (slotR j).toLoadRect hl₂) fun _ => .op (.store A3 (slotR j) (P a v) Finset.univ hx hm) k) (k ⟨⟩) := by
  subst hP
  refine Steps.of_quiet iprop(sfP c j fullShare (SFc m ρ (nb 0 c)) ∗ emp) iprop(sfP c j fullShare (SFc m ρ c) ∗ emp)
    rfl (BI.Entails.refl _) rfl (BI.Entails.refl _) ?_
  intro σ W Q hok
  have hz : zc c ≠ 3 := of_decide_eq_true hok
  rw [xs_eq]
  iintro ⟨#HR, HO, HX, Hb, -⟩ Hk
  iapply (wp_load 𝒱₀ (c : Thread nD τ) none Set.univ (m := A3) (on3 j)) $$ Hb; iintro Hb
  iapply (wp_load 𝒱₀ (c : Thread nD τ) none Set.univ (m := A0) (Finset.subset_univ _)) $$ HX; iintro HX
  iapply (wp_load 𝒱₀ (c : Thread nD τ) none Set.univ (m := A3) (on3 j)) $$ Hb; iintro Hb
  iapply (wp_store 𝒱₀ (c : Thread nD τ) none Set.univ (m := A3) (r := slotR j) (Mk := Finset.univ) (ac3 j)) $$ Hb; iintro Hb
  iapply Hk
  isplitl [HO]; · (iexists W; iexact HO)
  isplitl [HX]; · iexact HX
  isplitl [Hb]
  · iapply (Entails.of_eq (pointsTo_congr (acc_sf m ρ c j off inb hoff hz _))) $$ Hb
  iempintro

/-! ## The rows of the result -/

/-- What a store to the result does to the rows stored to, given what it leaves there. -/
theorem store_rows {Q : α → sProp 𝕄} {w : Vec F S512x1024 .bf16} {hl hx hm}
    (hw : ∀ f, ∀ i ∈ (rowsR off inb).set, (A1.access (rowsR off inb)).write (Elt F) f w Finset.univ i = OUTc m ρ (zc c) i) :
    all (F := F) m ρ c (outs j .junk) ⊢ iprop((all (F := F) m ρ c (outs j .val) -∗ wpc c (k ⟨⟩) Q)
      -∗ wpc c (.op (.load A1 (rowsR off inb).toLoadRect hl) fun _ => .op (.store A1 (rowsR off inb) w Finset.univ hx hm) k) Q) := by
  refine (rows_join (m := m) (ρ := ρ) c j off inb hoff).trans ?_
  iintro ⟨%f, Hb⟩ Hk
  iapply (wp_load 𝒱₀ (c : Thread nD τ) none Set.univ (m := A1) (on1 off inb)) $$ Hb; iintro Hb
  iapply (wp_store 𝒱₀ (c : Thread nD τ) none Set.univ (m := A1) (r := rowsR off inb) (Mk := Finset.univ) (ac1 off inb)) $$ Hb; iintro Hb
  iapply Hk
  iapply (rows_cut c j off inb hoff _ (hw f)) $$ Hb

theorem step_sum (P : Vec F S1x512x1024 .bf16 → Vec F S1x512x1024 .bf16 → FVec F S512x1024 .bf16) (hP : P = k0_pay13) {hl₂ hl₃ hl hx hm} :
    Steps (F := F) m ρ K c (.outSum j)
      (.op (.load A2 (slotR j).toLoadRect hl₂) fun a => .op (.load A3 (slotR j).toLoadRect hl₃) fun b =>
        .op (.load A1 (rowsR off inb).toLoadRect hl) fun _ => .op (.store A1 (rowsR off inb) (P a b) Finset.univ hx hm) k) (k ⟨⟩) := by
  subst hP
  by_cases hj : j.val < 2
  · have hin : sumIn j = [.half (.pf j), .raw (.sf j)] := if_pos hj
    have hA : ∀ f : Bf → Res, all (F := F) m ρ c (sumIn j ++ outs j f) = iprop(pfP c j fullShare.right (PFc m ρ c) ∗ sfP c j fullShare (SFc m ρ (nb 0 c)) ∗ all m ρ c (outs j f)) :=
      fun f => by rw [hin]; rfl
    refine Steps.of_quiet _ _ (by show (sumIn j ++ outs j .junk).all quiet = true; rw [hin]; rfl) (Entails.of_eq (hA .junk))
      (by show (sumIn j ++ outs j .val).all quiet = true; rw [hin]; rfl) (Entails.of_eq (hA .val).symm) ?_
    intro σ W Q hok
    have hz : zc c ≠ 3 := of_decide_eq_true ((if_pos hj).symm.trans hok)
    iintro ⟨#HR, HO, HX, H2, H3, Ho⟩ Hk
    iapply (wp_load 𝒱₀ (c : Thread nD τ) none Set.univ (m := A2) (on2 j)) $$ H2; iintro H2
    iapply (wp_load 𝒱₀ (c : Thread nD τ) none Set.univ (m := A3) (on3 j)) $$ H3; iintro H3
    iapply (store_rows (k := k) j off inb hoff (sum_lo m ρ c j off inb hoff hj hz)) $$ Ho
    iintro Ho
    iapply Hk
    isplitl [HO]; · (iexists W; iexact HO)
    isplitl [HX]; · iexact HX
    isplitl [H2]; · iexact H2
    isplitl [H3] <;> iassumption
  · have hin : sumIn j = [.raw (.pf j), .half (.sf j)] := if_neg hj
    have hA : ∀ f : Bf → Res, all (F := F) m ρ c (sumIn j ++ outs j f) = iprop(pfP c j fullShare (PFc m ρ (nb 1 c)) ∗ sfP c j fullShare.right (SFc m ρ c) ∗ all m ρ c (outs j f)) :=
      fun f => by rw [hin]; rfl
    refine Steps.of_quiet _ _ (by show (sumIn j ++ outs j .junk).all quiet = true; rw [hin]; rfl) (Entails.of_eq (hA .junk))
      (by show (sumIn j ++ outs j .val).all quiet = true; rw [hin]; rfl) (Entails.of_eq (hA .val).symm) ?_
    intro σ W Q hok
    have hz : zc c ≠ 0 := of_decide_eq_true ((if_neg hj).symm.trans hok)
    iintro ⟨#HR, HO, HX, H2, H3, Ho⟩ Hk
    iapply (wp_load 𝒱₀ (c : Thread nD τ) none Set.univ (m := A2) (on2 j)) $$ H2; iintro H2
    iapply (wp_load 𝒱₀ (c : Thread nD τ) none Set.univ (m := A3) (on3 j)) $$ H3; iintro H3
    iapply (store_rows (k := k) j off inb hoff (sum_hi m ρ c j off inb hoff hj hz)) $$ Ho
    iintro Ho
    iapply Hk
    isplitl [HO]; · (iexists W; iexact HO)
    isplitl [HX]; · iexact HX
    isplitl [H2]; · iexact H2
    isplitl [H3] <;> iassumption

theorem step_topPf (P : Vec F S1x512x1024 .bf16 → FVec F S512x1024 .bf16) (hP : P = k0_pay14) {hl₂ hl hx hm} :
    Steps (F := F) m ρ K c (.outPf j)
      (.op (.load A2 (slotR j).toLoadRect hl₂) fun a => .op (.load A1 (rowsR off inb).toLoadRect hl) fun _ =>
        .op (.store A1 (rowsR off inb) (P a) Finset.univ hx hm) k) (k ⟨⟩) := by
  subst hP
  refine Steps.of_quiet iprop(pfP c j fullShare (PFc m ρ c) ∗ all m ρ c (outs j .junk)) iprop(pfP c j fullShare (PFc m ρ c) ∗ all m ρ c (outs j .val))
    rfl (BI.Entails.refl _) rfl (BI.Entails.refl _) ?_
  intro σ W Q hok
  have hok' := Bool.and_eq_true_iff.mp hok
  iintro ⟨#HR, HO, HX, H2, Ho⟩ Hk
  iapply (wp_load 𝒱₀ (c : Thread nD τ) none Set.univ (m := A2) (on2 j)) $$ H2; iintro H2
  iapply (store_rows (k := k) j off inb hoff (top_pf m ρ c j off inb hoff (of_decide_eq_true hok'.2) (of_decide_eq_true hok'.1))) $$ Ho
  iintro Ho
  iapply Hk
  isplitl [HO]; · (iexists W; iexact HO)
  isplitl [HX]; · iexact HX
  isplitl [H2] <;> iassumption

theorem step_topSf (P : Vec F S1x512x1024 .bf16 → FVec F S512x1024 .bf16) (hP : P = k0_pay14) {hl₃ hl hx hm} :
    Steps (F := F) m ρ K c (.outSf j)
      (.op (.load A3 (slotR j).toLoadRect hl₃) fun a => .op (.load A1 (rowsR off inb).toLoadRect hl) fun _ =>
        .op (.store A1 (rowsR off inb) (P a) Finset.univ hx hm) k) (k ⟨⟩) := by
  subst hP
  refine Steps.of_quiet iprop(sfP c j fullShare (SFc m ρ c) ∗ all m ρ c (outs j .junk)) iprop(sfP c j fullShare (SFc m ρ c) ∗ all m ρ c (outs j .val))
    rfl (BI.Entails.refl _) rfl (BI.Entails.refl _) ?_
  intro σ W Q hok
  have hok' := Bool.and_eq_true_iff.mp hok
  iintro ⟨#HR, HO, HX, H3, Ho⟩ Hk
  iapply (wp_load 𝒱₀ (c : Thread nD τ) none Set.univ (m := A3) (on3 j)) $$ H3; iintro H3
  iapply (store_rows (k := k) j off inb hoff (top_sf m ρ c j off inb hoff (Nat.not_lt.mpr (of_decide_eq_true hok'.2)) (of_decide_eq_true hok'.1))) $$ Ho
  iintro Ho
  iapply Hk
  isplitl [HO]; · (iexists W; iexact HO)
  isplitl [HX]; · iexact HX
  isplitl [H3] <;> iassumption

end

/-! ## The copies -/

theorem active_tgt : ∀ (z : Fin 4) (t : X), active z t = true → activeR (tgtz z t) t = true := by decide

section
variable {α : Type} {k : PUnit → Prog (TpuEff nD τ sig (Elt F) Λ₀ .tc) α}

/-- Reading a part and writing what is read to the same part elsewhere carries the contents over. -/
theorem carry {s : Shape} (M : Memref sig .tc .vmem s .bf16) (fd fs : M.view.ty.Contents (Elt F)) :
    ∀ i ∈ M.view.set, M.view.write (Elt F) fd (M.view.read (Elt F) fs) Finset.univ i = fs i := by
  intro i hi
  rw [View.write_read_eq_piecewise]
  exact Finset.piecewise_eq_of_mem _ _ _ hi

theorem step_send (t : X) {n : Dev nD} (hn : n = tgt c t) {s : Shape} {M : Memref sig .tc .vmem s .bf16} {sS sR : DmaSem sig} (hS : sS = ssem t) (hR : sR = rsem t)
    (hN : M.view.amount (.dma sR) = NX t) (fs : Buf (Elt F) (M.view.loc (c : Thread nD τ)))
    (hs : payS (F := F) m ρ c t = (M.view.loc (c : Thread nD τ) ↦[M.view.set]{lentQ t} fs))
    (hd : dstP (F := F) c t = iprop(∃ fd, M.view.loc (tgt c t : Thread nD τ) ↦[M.view.set]{fullShare} fd))
    (hr : payR (F := F) m ρ (tgt c t) t = (M.view.loc (tgt c t : Thread nD τ) ↦[M.view.set]{fullShare} fs)) {hsc h₁ h₂ h₃} :
    Steps (F := F) m ρ K c (.send t) (.op (.enqueueDma M (.remote (Dev.tc n : Thread nD τ) M (.dma sS) hsc) (.dma sR) h₁ h₂ h₃) k) (k ⟨⟩) := by
  subst hn hS hR
  refine Steps.of_owing (tallyAt (rcvC (tgt c t) t) () (NX t))
    iprop((dutyTok ER (sndC c t) 0 0 ∗ dutyTok ER (rcvC (tgt c t) t) 0 0) ∗ dstP c t ∗ bp c (srcB t) fullShare (valC m ρ c (srcB t)) ∗ emp)
    iprop(cred (tallyAt (sndC c t) () (NX t)) ∗ all m ρ c (keptB t))
    (by show ((0 + 0 : CellTallies nD τ sig Unit) + 0) + _ = _; rw [zero_add, zero_add, zero_add]; rfl) (BI.Entails.refl _) (quiet_kept t) (BI.Entails.refl _) ?_
  intro σ W Q hok
  rw [hd]
  iintro ⟨#HR, HO, HX, ⟨Ht₁, Ht₂⟩, ⟨%fd, Hd⟩, Hs, -⟩ Hk
  ihave Hs' := (unlend c t).2 $$ Hs
  icases Hs' with ⟨Hs, Hkept⟩
  iapply (Rounds.wp_send_pointsTo 𝒱₀ ER (Rd m ρ) (c : Thread nD τ) none (κ₁ := K (c, .snd t)) (κ₂ := K (tgt c t, .rcv t))
    (r₁ := 0) (r₂ := 0) (d₁ := 0) (d₂ := 0) (fs := fs) (fd := fd) (q := lentQ t)
    (by rw [duties_snd, show active (zc c) t = true from hok, if_pos rfl]; exact Finset.mem_singleton_self _)
    (by rw [duties_rcv, zc_tgt, active_tgt _ _ hok, if_pos rfl]; exact Finset.mem_singleton_self _)
    () () (NX t) hN (amount_snd m ρ c t 0) (amount_rcv m ρ (tgt c t) t 0) (owed c σ) rfl (W := W)
    (by rw [payload_snd, hs]) (by rw [payload_rcv, hr]; exact Entails.of_eq (pointsTo_congr (carry M fd fs)))) $$ [HO Ht₁ Ht₂ Hs Hd]
  · isplitr; · iapply (recs_snd c t) $$ HR
    isplitr; · iapply (recs_rcv (tgt c t) t) $$ HR
    isplitl [Hs]; · (iapply (Entails.of_eq hs) $$ Hs)
    isplitl [Hd]; · iexact Hd
    isplitl [HO]; · iexact HO
    isplitl [Ht₁]; · iexact Ht₁
    isplitr; · iapply (reached_snd c t) $$ HR
    isplitl [Ht₂]; · iexact Ht₂
    iapply (reached_rcv (tgt c t) t) $$ HR
  iintro ⟨Hc, HO⟩
  iapply Hk
  isplitl [HO]; · (iexists W; iexact HO)
  isplitl [HX]; · iexact HX
  isplitl [Hc] <;> iassumption

theorem pfM_set (j : Fin 4) : (pfM j).view.set = (slotR j).set := (View.set_reshape _ _).trans (View.set_slice_whole _ _)
theorem sfM_set (j : Fin 4) : (sfM j).view.set = (slotR j).set := (View.set_reshape _ _).trans (View.set_slice_whole _ _)
theorem outM_set (c : Dev nD) (d : Fin 2) (o j : Fin 4) : (outM c d o j).view.set = (outR c d o j).set := View.set_slice_whole _ _

theorem step_sendPf (j : Fin 4) {n : Dev nD} (hn : n = nb 0 c) {sS sR : DmaSem sig} (hS : sS = ssem (.pf j)) (hR : sR = rsem (.pf j)) {hsc h₁ h₂ h₃} :
    Steps (F := F) m ρ K c (.send (.pf j)) (.op (.enqueueDma (pfM j) (.remote (Dev.tc n : Thread nD τ) (pfM j) (.dma sS) hsc) (.dma sR) h₁ h₂ h₃) k) (k ⟨⟩) :=
  step_send (.pf j) hn hS hR rfl (PFc m ρ c) (by rw [pfM_set]; rfl) (by rw [pfM_set]; rfl)
    (by rw [pfM_set]; exact congrArg (fun d => pfP (nb 0 c) j fullShare (PFc m ρ d)) (nb_opp 0 c))

theorem step_sendSf (j : Fin 4) {n : Dev nD} (hn : n = nb 1 c) {sS sR : DmaSem sig} (hS : sS = ssem (.sf j)) (hR : sR = rsem (.sf j)) {hsc h₁ h₂ h₃} :
    Steps (F := F) m ρ K c (.send (.sf j)) (.op (.enqueueDma (sfM j) (.remote (Dev.tc n : Thread nD τ) (sfM j) (.dma sS) hsc) (.dma sR) h₁ h₂ h₃) k) (k ⟨⟩) :=
  step_send (.sf j) hn hS hR rfl (SFc m ρ c) (by rw [sfM_set]; rfl) (by rw [sfM_set]; rfl)
    (by rw [sfM_set]; exact congrArg (fun d => sfP (nb 1 c) j fullShare (SFc m ρ d)) (nb_opp 1 c))

theorem unit_set_congr {s : Shape} {off off' size : Fin s.rank → ℕ} (e : off = off') (h : ∀ a, off a + size a ≤ s.size a) (h' : ∀ a, off' a + size a ≤ s.size a) :
    (Rect.unit (s := s) off size h).set = (Rect.unit (s := s) off' size h').set := by subst e; rfl

theorem outM_credit (c c' : Dev nD) (d : Fin 2) (o o' j : Fin 4) : (outM c d o j).view.dmaCredit = (outM c' d o' j).view.dmaCredit := by
  show sig.dmaCredit .tc _ A1.view.buf S256x1024 .bf16 = sig.dmaCredit .tc _ A1.view.buf S256x1024 .bf16
  rfl

theorem outR_step (c : Dev nD) (d : Fin 2) (h : Fin 3) (j : Fin 4) : (outR (tgt c (.ag d h j)) d h.succ j).set = (outR c d h.castSucc j).set := by
  exact unit_set_congr (outOff_step c d h j) _ _

theorem zc_tgt_ag (c : Dev nD) (d : Fin 2) (h : Fin 3) (j : Fin 4) : zc (tgt c (.ag d h j)) = zc c := zc_tgt _ _

theorem step_sendAg (d : Fin 2) (h : Fin 3) (j : Fin 4) {n : Dev nD} (hn : n = tgt c (.ag d h j)) {sS sR : DmaSem sig} (hS : sS = ssem (.ag d h j)) (hR : sR = rsem (.ag d h j)) {hsc h₁ h₂ h₃} :
    Steps (F := F) m ρ K c (.send (.ag d h j))
      (.op (.enqueueDma (outM c d h.castSucc j) (.remote (Dev.tc n : Thread nD τ) (outM c d h.castSucc j) (.dma sS) hsc) (.dma sR) h₁ h₂ h₃) k) (k ⟨⟩) := by
  have hset : bset (tgt c (.ag d h j)) (.out d h.succ j) = (outM c d h.castSucc j).view.set :=
    (outR_step c d h j).trans (outM_set c d h.castSucc j).symm
  refine step_send (.ag d h j) hn hS hR (outM_credit _ _ d _ _ j) (OUTc m ρ (zc c)) (by rw [outM_set]; rfl) ?_ ?_
  · unfold dstP bp
    rw [show bset (tgt c (.ag d h j)) (dstB (.ag d h j)) = _ from hset]; rfl
  · show bp (tgt c (.ag d h j)) (.out d h.succ j) fullShare (OUTc m ρ (zc (tgt c (.ag d h j)))) = _
    unfold bp
    rw [zc_tgt_ag, hset]; rfl

end

end Cert.AllReduce

end
-- ==== Proof.Parts.lean ====
/- The parts of the body before the second phase, each a run of the plan's steps. -/
module

public import proofs.«01_k».proof.Proof.Moves

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {m ρ} {K : Dev nD × CI → ℕ} {c : Dev nD}

/-! ## Offsets, neighbours and guards -/

/-- Where the rows of chunk `j` of a device's quarter begin. -/
abbrev rowsAt (c : Dev nD) (j : Fin 4) : Fin 2 → ℕ := ![2048 * (qc c).val + 512 * j.val, 0]

/-- When each guarded region runs. -/
theorem guards (c : Dev nD) :
    (k0_cond1 c = 1#1 ↔ lo (zc c) = true) ∧ (k0_cond2 c = 1#1 ↔ hi (zc c) = true) ∧ (k0_cond3 c = 1#1 ↔ (!lo (zc c)) = true) ∧ (k0_cond4 c = 1#1 ↔ mid (zc
    c) = true) ∧ (k0_cond5 c = 1#1 ↔ (!hi (zc c)) = true) ∧ (k0_cond6 c = 1#1 ↔ mid (zc c) = true) ∧ (k0_cond7 c = 1#1 ↔ (!lo (zc c)) = true) ∧ (k0_cond8
    c = 1#1 ↔ mid (zc c) = true) ∧ (k0_cond9 c = 1#1 ↔ (!hi (zc c)) = true) ∧ (k0_cond10 c = 1#1 ↔ mid (zc c) = true) ∧ (k0_cond11 c = 1#1 ↔ (!hi (zc c))
    = true) ∧ (k0_cond12 c = 1#1 ↔ hi (zc c) = true) ∧ (k0_cond13 c = 1#1 ↔ mid (zc c) = true) ∧ (k0_cond14 c = 1#1 ↔ (!lo (zc c)) = true) ∧ (k0_cond15 c
    = 1#1 ↔ lo (zc c) = true) ∧ (k0_cond16 c = 1#1 ↔ mid (zc c) = true) ∧ (k0_cond17 c = 1#1 ↔ (!hi (zc c)) = true) ∧ (k0_cond18 c = 1#1 ↔ hi (zc c) =
    true) ∧ (k0_cond19 c = 1#1 ↔ mid (zc c) = true) ∧ (k0_cond20 c = 1#1 ↔ (!lo (zc c)) = true) ∧ (k0_cond21 c = 1#1 ↔ lo (zc c) = true) ∧ (k0_cond22 c =
    1#1 ↔ mid (zc c) = true) := by
  revert c; decide +kernel

/-- The rows each access of the first phase is to. -/
theorem rowsOf (c : Dev nD) :
    k0_off3 c = rowsAt c 0 ∧ k0_off4 c = rowsAt c 2 ∧ k0_off5 c = rowsAt c 1 ∧ k0_off6 c = rowsAt c 3 ∧ k0_off7 c = rowsAt c 0 ∧ k0_off8 c = rowsAt c 0 ∧
    k0_off9 c = rowsAt c 0 ∧ k0_off10 c = rowsAt c 2 ∧ k0_off11 c = rowsAt c 2 ∧ k0_off12 c = rowsAt c 2 ∧ k0_off15 c = rowsAt c 1 ∧ k0_off16 c = rowsAt c
    1 ∧ k0_off17 c = rowsAt c 1 ∧ k0_off18 c = rowsAt c 3 ∧ k0_off19 c = rowsAt c 3 ∧ k0_off20 c = rowsAt c 3 := by
  revert c; decide +kernel

/-- Whom each signal and copy of the first phase goes to. -/
theorem peers (c : Dev nD) :
    k0_dev1 c = (nb 0 c).val ∧ k0_dev2 c = (nb 1 c).val ∧ k0_dev3 c = (nb 2 c).val ∧ k0_dev4 c = (nb 3 c).val ∧ k0_dev5 c = (nb 0 c).val ∧ k0_dev6 c = (nb
    0 c).val ∧ k0_dev7 c = (nb 0 c).val ∧ k0_dev8 c = (nb 0 c).val ∧ k0_dev9 c = (nb 1 c).val ∧ k0_dev10 c = (nb 1 c).val ∧ k0_dev11 c = (nb 1 c).val ∧
    k0_dev12 c = (nb 1 c).val ∧ k0_dev13 c = (nb 0 c).val ∧ k0_dev14 c = (nb 1 c).val ∧ k0_dev15 c = (nb 0 c).val ∧ k0_dev16 c = (nb 1 c).val ∧ k0_dev17 c
    = (nb 1 c).val ∧ k0_dev18 c = (nb 0 c).val ∧ k0_dev23 c = (nb 1 c).val ∧ k0_dev24 c = (nb 0 c).val := by
  revert c; decide +kernel

/-- Whom each copy of the second phase goes to. -/
theorem ringPeers (c : Dev nD) :
    k0_dev19 c = (nb 2 c).val ∧ k0_dev20 c = (nb 3 c).val ∧ k0_dev21 c = (nb 2 c).val ∧ k0_dev22 c = (nb 3 c).val ∧ k0_dev25 c = (nb 2 c).val ∧ k0_dev26 c
    = (nb 3 c).val ∧ k0_dev27 c = (nb 2 c).val ∧ k0_dev28 c = (nb 3 c).val ∧ k0_dev29 c = (nb 2 c).val ∧ k0_dev30 c = (nb 3 c).val ∧ k0_dev31 c = (nb 2
    c).val ∧ k0_dev32 c = (nb 3 c).val ∧ k0_dev33 c = (nb 2 c).val ∧ k0_dev34 c = (nb 3 c).val ∧ k0_dev35 c = (nb 2 c).val ∧ k0_dev36 c = (nb 3 c).val ∧
    k0_dev37 c = (nb 2 c).val ∧ k0_dev38 c = (nb 3 c).val ∧ k0_dev39 c = (nb 2 c).val ∧ k0_dev40 c = (nb 3 c).val ∧ k0_dev41 c = (nb 2 c).val ∧ k0_dev42 c
    = (nb 3 c).val ∧ k0_dev43 c = (nb 2 c).val ∧ k0_dev44 c = (nb 3 c).val := by
  revert c; decide +kernel

theorem off1_at : ∀ (c : Dev nD) (j : Fin 4), k0_off1 c (BitVec.ofNat 32 (512 * j.val)) = rowsAt c j := by decide +kernel
theorem off2_at : ∀ (c : Dev nD) (j : Fin 4), k0_off2 c (BitVec.ofNat 32 (512 * j.val)) = rowsAt c j := by decide +kernel

section
variable {α : Type}

theorem credit_pf (t : X) (j : Fin 4) (h : NX t = (pfM j).view.dmaCredit) (off : Fin 3 → ℕ) (inb) (hr) (hq) :
    ((A2.slice (Rect.unit (s := S4x512x1024) off S1x512x1024.size inb) hr).squeeze S512x1024 hq).view.dmaCredit = NX t := h.symm
theorem credit_sf (t : X) (j : Fin 4) (h : NX t = (sfM j).view.dmaCredit) (off : Fin 3 → ℕ) (inb) (hr) (hq) :
    ((A3.slice (Rect.unit (s := S4x512x1024) off S1x512x1024.size inb) hr).squeeze S512x1024 hq).view.dmaCredit = NX t := h.symm
theorem credit_ag (d : Fin 2) (h : Fin 3) (j : Fin 4) (off : Fin 2 → ℕ) (inb) (hr) :
    (A1.slice (Rect.unit (s := S8192x1024) off S256x1024.size inb) hr).view.dmaCredit = NX (.ag d h j) := by
  show sig.dmaCredit .tc _ A1.view.buf S256x1024 .bf16 = sig.dmaCredit .tc _ A1.view.buf S256x1024 .bf16
  rfl

theorem Does.bind0 {α β : Type} {os : List Op} {P : Prog (TpuEff nD τ sig (Elt F) Λ₀ .tc) α} {f : α → Prog (TpuEff nD τ sig (Elt F) Λ₀ .tc) β}
    {R : α → Prop} {R' : β → Prop} (hP : Does (F := F) m ρ K c [] P R) (hf : ∀ v, R v → Does m ρ K c os (f v) R') :
    Does m ρ K c os (P >>= f) R' := Does.bind hP hf

theorem Does.devid {os : List Op} {k : Dev nD → Prog (TpuEff nD τ sig (Elt F) Λ₀ .tc) α} {R : α → Prop} (h : Does (F := F) m ρ K c os (k c) R) :
    Does m ρ K c os (.op .deviceId k) R := fun σ σ' Q hr hQ => by
  show _ ⊢ wp frame (wpE (defs₀ (F := F)) 𝒱₀ (c : Thread nD τ) none) Set.univ (.op .deviceId k) Q
  rw [wp_deviceId]
  exact h σ σ' Q hr hQ

variable {k : PUnit → Prog (TpuEff nD τ sig (Elt F) Λ₀ .tc) α} {R : α → Prop} {os : List Op}

/-- The arrival of copy `(d, h, j)` of the second phase. -/
theorem recvAg (d : Fin 2) (h : Fin 3) (j : Fin 4) {s : DmaSem sig} {off : Fin 2 → ℕ} {inb} {hr} {s₁ : Shape} {m₁ : Memref sig .tc .vmem s₁ .bf16} {h₁ h₂}
    (hs : s = rsem (.ag d h j)) (hk : Does (F := F) m ρ K c os (k ⟨⟩) R) :
    Does m ρ K c (agRecv d h j :: os) (.op (.waitDma2 s m₁ (A1.slice (Rect.unit (s := S8192x1024) off S256x1024.size inb) hr) h₁ h₂) k) R :=
  .cons (step_recv (.ag d h j) hs (credit_ag d h j off inb hr)) hk
/-- The end of copy `(d, h, j)` of the second phase. -/
theorem doneAg (d : Fin 2) (h : Fin 3) (j : Fin 4) {s : DmaSem sig} {off : Fin 2 → ℕ} {inb} {hr} {s₁ : Shape} {m₁ : Memref sig .tc .vmem s₁ .bf16} {h₁ h₂}
    (hs : s = ssem (.ag d h j)) (hk : Does (F := F) m ρ K c os (k ⟨⟩) R) :
    Does m ρ K c (agDone d h j :: os) (.op (.waitDma2 s m₁ (A1.slice (Rect.unit (s := S8192x1024) off S256x1024.size inb) hr) h₁ h₂) k) R :=
  .cons (step_wsend (.ag d h j) hs (credit_ag d h j off inb hr)) hk

variable {h0 : A0.IsWhole} {h1 : A1.IsWhole} {h2 : A2.IsWhole} {h3 : A3.IsWhole}

/-- The height word of a device, as the body computes it. -/
def hgt (c : Dev nD) : BitVec 32 := Scalar.remsi (Scalar.divsi (Dev.word c) 1#32) 4#32

theorem guarded {α : Type} {b : Bool} {os os' : List Op} {C : Prop} [Decidable C] {jp : PUnit → Prog (TpuEff nD τ sig (Elt F) Λ₀ .tc) α}
    {t : C → Prog (TpuEff nD τ sig (Elt F) Λ₀ .tc) α} {R : α → Prop} (hb : C ↔ b = true)
    (ht : ∀ h, (∀ y, Does (F := F) m ρ K c os' (jp y) R) → Does (F := F) m ρ K c (os ++ os') (t h) R)
    (hj : ∀ y, Does (F := F) m ρ K c os' (jp y) R) : Does m ρ K c (g b os ++ os') (dite C t fun _ => jp ⟨⟩) R := by
  by_cases h : C
  · rw [dif_pos h, g, if_pos (hb.mp h)]; exact ht h hj
  · rw [dif_neg h, g, if_neg fun hb' => h (hb.mpr hb')]; exact hj _

/-! ## The parts of the body -/

theorem part5 : Does m ρ K c [] (k0_part5 (F := F) A0 h0 A1 h1 A2 h2 A3 h3 cc0_scratch2 cc0_scratch3 cc0_scratch4 cc0_scratch5 cc0_scratch6 cc0_scratch7)
    (fun r => r.1 = c ∧ r.2.2.2.1 = hgt c) := by
  rw [k0_part5_eq_skeleton]
  exact .devid (.ret ⟨rfl, rfl⟩)

theorem part7 {v2 v5 v8 v27 v31 v44 v48 v59 v63 v64 : BitVec 32} {v65 v66 : BitVec 1} : Does m ρ K c opsBar
    (k0_part7 (F := F) A0 h0 A1 h1 A2 h2 A3 h3 cc0_scratch2 cc0_scratch3 cc0_scratch4 cc0_scratch5 cc0_scratch6 cc0_scratch7 c v2 v5 v8 v27 v31 v44 v48 v59 v63 v64 v65 v66) (fun _ => True) := by
  rw [k0_part7_eq_skeleton]
  obtain ⟨n1, n2, n3, n4, n5, n6, n7, n8, n9, n10, n11, n12, n13, n14, n15, n16, n17, n18, n23, n24⟩ := peers c
  unfold k0_part7_skel
  simp only [semSignalWord, semWaitWord, Prog.lift, Prog.bind_op, Prog.bind_ret, Prog.pure_eq_ret]
  exact .cons (step_sig 0 (Fin.ext n1) (by decide)) (.cons (step_sig 1 (Fin.ext n2) (by decide)) (.cons (step_sig 2 (Fin.ext n3) (by decide)) (.cons (step_sig 3 (Fin.ext n4) (by decide))
    (.cons (step_bwait (by decide)) (.ret trivial)))))

theorem part8 {v2 v5 v8 v11 v59 v71 : BitVec 32} {v97 : BitVec 1} : Does m ρ K c (ops8 (zc c))
    (k0_part8 (F := F) A0 h0 A1 h1 A2 h2 A3 h3 cc0_scratch2 cc0_scratch3 cc0_scratch4 cc0_scratch5 cc0_scratch6 cc0_scratch7 c v2 v5 v8 v11 v59 v71 v97) (fun _ => True) := by
  rw [k0_part8_eq_skeleton]
  unfold k0_part8_skel ops8
  rw [k0_part1_eq_skeleton, k0_part2_eq_skeleton, k0_part3_eq_skeleton, k0_part4_eq_skeleton]
  obtain ⟨g1, g2, g3, g4, g5, g6, g7, g8, g9, g10, g11, g12, g13, g14, g15, g16, g17, g18, g19, g20, g21, g22⟩ := guards c
  obtain ⟨o3, o4, o5, o6, o7, o8, o9, o10, o11, o12, o15, o16, o17, o18, o19, o20⟩ := rowsOf c
  obtain ⟨n1, n2, n3, n4, n5, n6, n7, n8, n9, n10, n11, n12, n13, n14, n15, n16, n17, n18, n23, n24⟩ := peers c
  extract_lets
  refine guarded g1 (fun h hj => ?_) fun _ => ?_
  · refine .cons (step_initPf 0 _ _ (off1_at c 0) k0_pay1 rfl) ?_
    refine .cons (step_sendPf 0 (Fin.ext n5) rfl rfl) ?_
    refine .cons (step_initPf 1 _ _ (off1_at c 1) k0_pay2 rfl) ?_
    refine .cons (step_sendPf 1 (Fin.ext n6) rfl rfl) ?_
    refine .cons (step_initPf 2 _ _ (off1_at c 2) k0_pay3 rfl) ?_
    refine .cons (step_sendPf 2 (Fin.ext n7) rfl rfl) ?_
    refine .cons (step_initPf 3 _ _ (off1_at c 3) k0_pay4 rfl) ?_
    refine .cons (step_sendPf 3 (Fin.ext n8) rfl rfl) ?_
    exact hj ⟨⟩
  refine guarded g2 (fun h hj => ?_) fun _ => ?_
  · refine .cons (step_initSf 0 _ _ (off2_at c 0) k0_pay5 rfl) ?_
    refine .cons (step_sendSf 0 (Fin.ext n9) rfl rfl) ?_
    refine .cons (step_initSf 1 _ _ (off2_at c 1) k0_pay6 rfl) ?_
    refine .cons (step_sendSf 1 (Fin.ext n10) rfl rfl) ?_
    refine .cons (step_initSf 2 _ _ (off2_at c 2) k0_pay7 rfl) ?_
    refine .cons (step_sendSf 2 (Fin.ext n11) rfl rfl) ?_
    refine .cons (step_initSf 3 _ _ (off2_at c 3) k0_pay8 rfl) ?_
    refine .cons (step_sendSf 3 (Fin.ext n12) rfl rfl) ?_
    exact hj ⟨⟩
  rw [← List.append_nil (g _ _)]
  refine guarded g3 (fun h hj => ?_) fun _ => .ret trivial
  · refine .cons (step_recv (.pf 0) rfl (credit_pf _ 0 rfl _ _ _ _)) ?_
    refine .cons (step_accPf 0 _ _ o3 k0_pay9 rfl) ?_
    exact hj ⟨⟩

theorem part9 {v2 v5 v8 v11 v59 v71 v109 : BitVec 32} {v101 : BitVec 1} : Does m ρ K c (ops9 (zc c))
    (k0_part9 (F := F) A0 h0 A1 h1 A2 h2 A3 h3 cc0_scratch2 cc0_scratch3 cc0_scratch4 cc0_scratch5 cc0_scratch6 cc0_scratch7 c v2 v5 v8 v11 v59 v71 v101 v109) (fun _ => True) := by
  rw [k0_part9_eq_skeleton]
  unfold k0_part9_skel ops9
  obtain ⟨g1, g2, g3, g4, g5, g6, g7, g8, g9, g10, g11, g12, g13, g14, g15, g16, g17, g18, g19, g20, g21, g22⟩ := guards c
  obtain ⟨o3, o4, o5, o6, o7, o8, o9, o10, o11, o12, o15, o16, o17, o18, o19, o20⟩ := rowsOf c
  obtain ⟨n1, n2, n3, n4, n5, n6, n7, n8, n9, n10, n11, n12, n13, n14, n15, n16, n17, n18, n23, n24⟩ := peers c
  extract_lets
  refine guarded g4 (fun h hj => ?_) fun _ => ?_
  · refine .cons (step_sendPf 0 (Fin.ext n13) rfl rfl) ?_
    exact hj ⟨⟩
  refine guarded g5 (fun h hj => ?_) fun _ => ?_
  · refine .cons (step_recv (.sf 2) rfl (credit_sf _ 2 rfl _ _ _ _)) ?_
    refine .cons (step_accSf 2 _ _ o4 k0_pay10 rfl) ?_
    exact hj ⟨⟩
  refine guarded g6 (fun h hj => ?_) fun _ => ?_
  · refine .cons (step_sendSf 2 (Fin.ext n14) rfl rfl) ?_
    exact hj ⟨⟩
  refine guarded g7 (fun h hj => ?_) fun _ => ?_
  · refine .cons (step_recv (.pf 1) rfl (credit_pf _ 1 rfl _ _ _ _)) ?_
    refine .cons (step_accPf 1 _ _ o5 k0_pay11 rfl) ?_
    exact hj ⟨⟩
  refine guarded g8 (fun h hj => ?_) fun _ => ?_
  · refine .cons (step_sendPf 1 (Fin.ext n15) rfl rfl) ?_
    exact hj ⟨⟩
  refine guarded g9 (fun h hj => ?_) fun _ => ?_
  · refine .cons (step_recv (.sf 3) rfl (credit_sf _ 3 rfl _ _ _ _)) ?_
    refine .cons (step_accSf 3 _ _ o6 k0_pay12 rfl) ?_
    exact hj ⟨⟩
  rw [← List.append_nil (g _ _)]
  refine guarded g10 (fun h hj => ?_) fun _ => .ret trivial
  · refine .cons (step_sendSf 3 (Fin.ext n16) rfl rfl) ?_
    exact hj ⟨⟩

theorem part10 {v2 v5 v8 v11 v14 v59 v71 c3 : BitVec 32} {v97 v98 v101 : BitVec 1} : Does m ρ K c (opsPair (zc c) 0 2)
    (k0_part10 (F := F) A0 h0 A1 h1 A2 h2 A3 h3 cc0_scratch2 cc0_scratch3 cc0_scratch4 cc0_scratch5 cc0_scratch6 cc0_scratch7 c v2 v5 v8 v11 v14 v59 v71 v97 v98 v101 c3) (fun _ => True) := by
  rw [k0_part10_eq_skeleton]
  unfold k0_part10_skel opsPair
  obtain ⟨g1, g2, g3, g4, g5, g6, g7, g8, g9, g10, g11, g12, g13, g14, g15, g16, g17, g18, g19, g20, g21, g22⟩ := guards c
  obtain ⟨o3, o4, o5, o6, o7, o8, o9, o10, o11, o12, o15, o16, o17, o18, o19, o20⟩ := rowsOf c
  obtain ⟨n1, n2, n3, n4, n5, n6, n7, n8, n9, n10, n11, n12, n13, n14, n15, n16, n17, n18, n23, n24⟩ := peers c
  extract_lets
  refine guarded g11 (fun h hj => ?_) fun _ => ?_
  · refine .cons (step_recv (.sf 0) rfl (credit_sf _ 0 rfl _ _ _ _)) ?_
    refine .cons (step_sum 0 _ _ o7 k0_pay13 rfl) ?_
    exact hj ⟨⟩
  refine guarded g12 (fun h hj => ?_) fun _ => ?_
  · refine .cons (step_topPf 0 _ _ o8 k0_pay14 rfl) ?_
    exact hj ⟨⟩
  refine guarded g13 (fun h hj => ?_) fun _ => ?_
  · refine .cons (step_accSf 0 _ _ o9 k0_pay15 rfl) ?_
    refine .cons (step_sendSf 0 (Fin.ext n17) rfl rfl) ?_
    exact hj ⟨⟩
  refine guarded g14 (fun h hj => ?_) fun _ => ?_
  · refine .cons (step_recv (.pf 2) rfl (credit_pf _ 2 rfl _ _ _ _)) ?_
    refine .cons (step_sum 2 _ _ o10 k0_pay16 rfl) ?_
    exact hj ⟨⟩
  refine guarded g15 (fun h hj => ?_) fun _ => ?_
  · refine .cons (step_topSf 2 _ _ o11 k0_pay17 rfl) ?_
    exact hj ⟨⟩
  rw [← List.append_nil (g _ _)]
  refine guarded g16 (fun h hj => ?_) fun _ => .ret trivial
  · refine .cons (step_accPf 2 _ _ o12 k0_pay18 rfl) ?_
    refine .cons (step_sendPf 2 (Fin.ext n18) rfl rfl) ?_
    exact hj ⟨⟩

theorem part14 {v2 v5 v8 v11 v48 v59 v71 v243 : BitVec 32} {v97 v98 v101 : BitVec 1} : Does m ρ K c (agSend 1 0 2 :: opsPair (zc c) 1 3)
    (k0_part14 (F := F) A0 h0 A1 h1 A2 h2 A3 h3 cc0_scratch2 cc0_scratch3 cc0_scratch4 cc0_scratch5 cc0_scratch6 cc0_scratch7 c v2 v5 v8 v11 v48 v59 v71 v97 v98 v101 v243) (fun _ => True) := by
  rw [k0_part14_eq_skeleton]
  unfold k0_part14_skel opsPair
  obtain ⟨g1, g2, g3, g4, g5, g6, g7, g8, g9, g10, g11, g12, g13, g14, g15, g16, g17, g18, g19, g20, g21, g22⟩ := guards c
  obtain ⟨o3, o4, o5, o6, o7, o8, o9, o10, o11, o12, o15, o16, o17, o18, o19, o20⟩ := rowsOf c
  obtain ⟨n1, n2, n3, n4, n5, n6, n7, n8, n9, n10, n11, n12, n13, n14, n15, n16, n17, n18, n23, n24⟩ := peers c
  obtain ⟨n19, n20, n21, n22, n25, n26, n27, n28, n29, n30, n31, n32, n33, n34, n35, n36, n37, n38, n39, n40, n41, n42, n43, n44⟩ := ringPeers c
  extract_lets
  refine Does.bind (os := [agSend 1 0 2]) (R := fun _ => True) (.cons (step_sendAg 1 0 2 (Fin.ext n22) rfl rfl) (.ret trivial)) fun _ _ => ?_
  beta_reduce
  refine guarded g17 (fun h hj => ?_) fun _ => ?_
  · refine .cons (step_recv (.sf 1) rfl (credit_sf _ 1 rfl _ _ _ _)) ?_
    refine .cons (step_sum 1 _ _ o15 k0_pay19 rfl) ?_
    exact hj ⟨⟩
  refine guarded g18 (fun h hj => ?_) fun _ => ?_
  · refine .cons (step_topPf 1 _ _ o16 k0_pay20 rfl) ?_
    exact hj ⟨⟩
  refine guarded g19 (fun h hj => ?_) fun _ => ?_
  · refine .cons (step_accSf 1 _ _ o17 k0_pay21 rfl) ?_
    refine .cons (step_sendSf 1 (Fin.ext n23) rfl rfl) ?_
    exact hj ⟨⟩
  refine guarded g20 (fun h hj => ?_) fun _ => ?_
  · refine .cons (step_recv (.pf 3) rfl (credit_pf _ 3 rfl _ _ _ _)) ?_
    refine .cons (step_sum 3 _ _ o18 k0_pay22 rfl) ?_
    exact hj ⟨⟩
  refine guarded g21 (fun h hj => ?_) fun _ => ?_
  · refine .cons (step_topSf 3 _ _ o19 k0_pay23 rfl) ?_
    exact hj ⟨⟩
  rw [← List.append_nil (g _ _)]
  refine guarded g22 (fun h hj => ?_) fun _ => .ret trivial
  · refine .cons (step_accPf 3 _ _ o20 k0_pay24 rfl) ?_
    refine .cons (step_sendPf 3 (Fin.ext n24) rfl rfl) ?_
    exact hj ⟨⟩

end

end Cert.AllReduce

end
-- ==== Proof.BodyA.lean ====
/- The body up to the last hop's ends, as a list of steps. -/
module

public import proofs.«01_k».proof.Proof.Parts

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

variable {m ρ} {K : Dev nD × CI → ℕ} {c : Dev nD}

/-- The steps of the body up to the last hop's ends, part by part. -/
def bodyA (z : Fin 4) : List (List Op) :=
  [opsBar, ops8 z, ops9 z, opsPair z 0 2, [agSend 0 0 0], [agSend 1 0 0], [agSend 0 0 2], agSend 1 0 2 :: opsPair z 1 3, [agSend 0 0 1],
    [agSend 1 0 1], [agSend 0 0 3], [agSend 1 0 3], [agRecv 0 0 0], [agSend 0 1 0], [agRecv 1 0 0, agSend 1 1 0], [agRecv 0 0 2], [agSend 0 1 2],
    [agRecv 1 0 2], [agSend 1 1 2], [agRecv 0 0 1], [agSend 0 1 1], [agRecv 1 0 1, agSend 1 1 1], [agRecv 0 0 3], [agSend 0 1 3], [agRecv 1 0 3],
    [agSend 1 1 3], [agRecv 0 1 0], [agSend 0 2 0, agRecv 1 1 0], [agSend 1 2 0], [agRecv 0 1 2], [agSend 0 2 2], [agRecv 1 1 2], [agSend 1 2 2],
    [agRecv 0 1 1], [agSend 0 2 1, agRecv 1 1 1], [agSend 1 2 1], [agRecv 0 1 3], [agSend 0 2 3], [agRecv 1 1 3], [agSend 1 2 3],
    [agRecv 0 2 0, agRecv 1 2 0], [agRecv 0 2 2], [agRecv 1 2 2], [agRecv 0 2 1], [agRecv 1 2 1], [agRecv 0 2 3], [agRecv 1 2 3, agDone 0 0 0],
    [agDone 1 0 0], [agDone 0 0 1, agDone 1 0 1], [agDone 0 0 2], [agDone 1 0 2, agDone 0 0 3], [agDone 1 0 3], [agDone 0 1 0],
    [agDone 1 1 0, agDone 0 1 1], [agDone 1 1 1], [agDone 0 1 2, agDone 1 1 2], [agDone 0 1 3], [agDone 1 1 3, agDone 0 2 0]]

/-- The rest of them. -/
def bodyB (z : Fin 4) : List (List Op) :=
  [[agDone 1 2 0], [agDone 0 2 1], [agDone 1 2 1, agDone 0 2 2], [agDone 1 2 2], [agDone 0 2 3, agDone 1 2 3],
    g (!hi z) [.wsend (.pf 0)] ++ (g (!lo z) [.wsend (.sf 0)] ++ (g (!hi z) [.wsend (.pf 1)] ++ (g (!lo z) [.wsend (.sf 1)]
      ++ (g (!hi z) [.wsend (.pf 2)] ++ g (!lo z) [.wsend (.sf 2)])))),
    g (!hi z) [.wsend (.pf 3)] ++ g (!lo z) [.wsend (.sf 3)]]

theorem body_ops : ∀ z, (bodyA z).flatten ++ (bodyB z).flatten = ops z := by decide +kernel

theorem bindL {α β : Type} {l : List Op} {L : List (List Op)} {P : Prog (TpuEff nD τ sig (Elt F) Λ₀ .tc) α} {f : α → Prog (TpuEff nD τ sig (Elt F) Λ₀ .tc) β}
    {R : α → Prop} {R' : β → Prop} (hP : Does (F := F) m ρ K c l P R) (hf : ∀ v, R v → Does m ρ K c L.flatten (f v) R') :
    Does m ρ K c (l :: L).flatten (P >>= f) R' := Does.bind hP hf

theorem below (c : Dev nD) : (Scalar.cmpi .ne (Scalar.extui (Scalar.cmpi .slt (hgt c) 3#32)) 0#32 : BitVec 1) = 1#1 ↔ (!hi (zc c)) = true := by
  revert c; decide +kernel
theorem overs (c : Dev nD) : (Scalar.cmpi .ne (Scalar.extui (Scalar.cmpi .sgt (hgt c) 0#32)) 0#32 : BitVec 1) = 1#1 ↔ (!lo (zc c)) = true := by
  revert c; decide +kernel

variable {h0 : A0.IsWhole} {h1 : A1.IsWhole} {h2 : A2.IsWhole} {h3 : A3.IsWhole}

theorem part71 : Does m ρ K c (bodyA (zc c)).flatten (k0_part71 (F := F) A0 h0 A1 h1 A2 h2 A3 h3 cc0_scratch2 cc0_scratch3 cc0_scratch4 cc0_scratch5 cc0_scratch6 cc0_scratch7) (fun r => r.1 = c ∧ r.2.1 = hgt c) := by
  obtain ⟨n19, n20, n21, n22, n25, n26, n27, n28, n29, n30, n31, n32, n33, n34, n35, n36, n37, n38, n39, n40, n41, n42, n43, n44⟩ := ringPeers c
  unfold k0_part71 bodyA
  refine Does.bind0 part5 ?_
  rintro ⟨d0, v2, v5, v8, v11, v14, v27, v31, v32, w⟩ ⟨e0, e8⟩
  dsimp only at e0 e8
  subst e8 e0
  refine Does.bind0 (R := fun _ => True) (.ret trivial) fun _ _ => ?_
  refine bindL part7 fun _ _ => ?_
  refine bindL part8 fun _ _ => ?_
  refine bindL part9 fun _ _ => ?_
  refine bindL part10 fun _ _ => ?_
  refine bindL (R := fun _ => True) (.cons (step_sendAg 0 0 0 (Fin.ext n19) rfl rfl) (.ret trivial)) fun _ _ => ?_
  refine bindL (R := fun _ => True) (.cons (step_sendAg 1 0 0 (Fin.ext n20) rfl rfl) (.ret trivial)) fun _ _ => ?_
  refine bindL (R := fun _ => True) (.cons (step_sendAg 0 0 2 (Fin.ext n21) rfl rfl) (.ret trivial)) fun _ _ => ?_
  refine bindL part14 fun _ _ => ?_
  refine bindL (R := fun _ => True) (.cons (step_sendAg 0 0 1 (Fin.ext n25) rfl rfl) (.ret trivial)) fun _ _ => ?_
  refine bindL (R := fun _ => True) (.cons (step_sendAg 1 0 1 (Fin.ext n26) rfl rfl) (.ret trivial)) fun _ _ => ?_
  refine bindL (R := fun _ => True) (.cons (step_sendAg 0 0 3 (Fin.ext n27) rfl rfl) (.ret trivial)) fun _ _ => ?_
  refine bindL (R := fun _ => True) (.cons (step_sendAg 1 0 3 (Fin.ext n28) rfl rfl) (.ret trivial)) fun _ _ => ?_
  refine bindL (R := fun _ => True) (recvAg 0 0 0 rfl (.ret trivial)) fun _ _ => ?_
  refine bindL (R := fun _ => True) (.cons (step_sendAg 0 1 0 (Fin.ext n29) rfl rfl) (.ret trivial)) fun _ _ => ?_
  refine bindL (R := fun _ => True) (recvAg 1 0 0 rfl (.cons (step_sendAg 1 1 0 (Fin.ext n30) rfl rfl) (.ret trivial))) fun _ _ => ?_
  refine bindL (R := fun _ => True) (recvAg 0 0 2 rfl (.ret trivial)) fun _ _ => ?_
  refine bindL (R := fun _ => True) (.cons (step_sendAg 0 1 2 (Fin.ext n31) rfl rfl) (.ret trivial)) fun _ _ => ?_
  refine bindL (R := fun _ => True) (recvAg 1 0 2 rfl (.ret trivial)) fun _ _ => ?_
  refine bindL (R := fun _ => True) (.cons (step_sendAg 1 1 2 (Fin.ext n32) rfl rfl) (.ret trivial)) fun _ _ => ?_
  refine bindL (R := fun _ => True) (recvAg 0 0 1 rfl (.ret trivial)) fun _ _ => ?_
  refine bindL (R := fun _ => True) (.cons (step_sendAg 0 1 1 (Fin.ext n33) rfl rfl) (.ret trivial)) fun _ _ => ?_
  refine bindL (R := fun _ => True) (recvAg 1 0 1 rfl (.cons (step_sendAg 1 1 1 (Fin.ext n34) rfl rfl) (.ret trivial))) fun _ _ => ?_
  refine bindL (R := fun _ => True) (recvAg 0 0 3 rfl (.ret trivial)) fun _ _ => ?_
  refine bindL (R := fun _ => True) (.cons (step_sendAg 0 1 3 (Fin.ext n35) rfl rfl) (.ret trivial)) fun _ _ => ?_
  refine bindL (R := fun _ => True) (recvAg 1 0 3 rfl (.ret trivial)) fun _ _ => ?_
  refine bindL (R := fun _ => True) (.cons (step_sendAg 1 1 3 (Fin.ext n36) rfl rfl) (.ret trivial)) fun _ _ => ?_
  refine bindL (R := fun _ => True) (recvAg 0 1 0 rfl (.ret trivial)) fun _ _ => ?_
  refine bindL (R := fun _ => True) (.cons (step_sendAg 0 2 0 (Fin.ext n37) rfl rfl) (recvAg 1 1 0 rfl (.ret trivial))) fun _ _ => ?_
  refine bindL (R := fun _ => True) (.cons (step_sendAg 1 2 0 (Fin.ext n38) rfl rfl) (.ret trivial)) fun _ _ => ?_
  refine bindL (R := fun _ => True) (recvAg 0 1 2 rfl (.ret trivial)) fun _ _ => ?_
  refine bindL (R := fun _ => True) (.cons (step_sendAg 0 2 2 (Fin.ext n39) rfl rfl) (.ret trivial)) fun _ _ => ?_
  refine bindL (R := fun _ => True) (recvAg 1 1 2 rfl (.ret trivial)) fun _ _ => ?_
  refine bindL (R := fun _ => True) (.cons (step_sendAg 1 2 2 (Fin.ext n40) rfl rfl) (.ret trivial)) fun _ _ => ?_
  refine bindL (R := fun _ => True) (recvAg 0 1 1 rfl (.ret trivial)) fun _ _ => ?_
  refine bindL (R := fun _ => True) (.cons (step_sendAg 0 2 1 (Fin.ext n41) rfl rfl) (recvAg 1 1 1 rfl (.ret trivial))) fun _ _ => ?_
  refine bindL (R := fun _ => True) (.cons (step_sendAg 1 2 1 (Fin.ext n42) rfl rfl) (.ret trivial)) fun _ _ => ?_
  refine bindL (R := fun _ => True) (recvAg 0 1 3 rfl (.ret trivial)) fun _ _ => ?_
  refine bindL (R := fun _ => True) (.cons (step_sendAg 0 2 3 (Fin.ext n43) rfl rfl) (.ret trivial)) fun _ _ => ?_
  refine bindL (R := fun _ => True) (recvAg 1 1 3 rfl (.ret trivial)) fun _ _ => ?_
  refine bindL (R := fun _ => True) (.cons (step_sendAg 1 2 3 (Fin.ext n44) rfl rfl) (.ret trivial)) fun _ _ => ?_
  refine bindL (R := fun _ => True) (recvAg 0 2 0 rfl (recvAg 1 2 0 rfl (.ret trivial))) fun _ _ => ?_
  refine bindL (R := fun _ => True) (recvAg 0 2 2 rfl (.ret trivial)) fun _ _ => ?_
  refine bindL (R := fun _ => True) (recvAg 1 2 2 rfl (.ret trivial)) fun _ _ => ?_
  refine bindL (R := fun _ => True) (recvAg 0 2 1 rfl (.ret trivial)) fun _ _ => ?_
  refine bindL (R := fun _ => True) (recvAg 1 2 1 rfl (.ret trivial)) fun _ _ => ?_
  refine bindL (R := fun _ => True) (recvAg 0 2 3 rfl (.ret trivial)) fun _ _ => ?_
  refine bindL (R := fun _ => True) (recvAg 1 2 3 rfl (doneAg 0 0 0 rfl (.ret trivial))) fun _ _ => ?_
  refine bindL (R := fun _ => True) (doneAg 1 0 0 rfl (.ret trivial)) fun _ _ => ?_
  refine bindL (R := fun _ => True) (doneAg 0 0 1 rfl (doneAg 1 0 1 rfl (.ret trivial))) fun _ _ => ?_
  refine bindL (R := fun _ => True) (doneAg 0 0 2 rfl (.ret trivial)) fun _ _ => ?_
  refine bindL (R := fun _ => True) (doneAg 1 0 2 rfl (doneAg 0 0 3 rfl (.ret trivial))) fun _ _ => ?_
  refine bindL (R := fun _ => True) (doneAg 1 0 3 rfl (.ret trivial)) fun _ _ => ?_
  refine bindL (R := fun _ => True) (doneAg 0 1 0 rfl (.ret trivial)) fun _ _ => ?_
  refine bindL (R := fun _ => True) (doneAg 1 1 0 rfl (doneAg 0 1 1 rfl (.ret trivial))) fun _ _ => ?_
  refine bindL (R := fun _ => True) (doneAg 1 1 1 rfl (.ret trivial)) fun _ _ => ?_
  refine bindL (R := fun _ => True) (doneAg 0 1 2 rfl (doneAg 1 1 2 rfl (.ret trivial))) fun _ _ => ?_
  refine bindL (R := fun _ => True) (doneAg 0 1 3 rfl (.ret trivial)) fun _ _ => ?_
  refine bindL (R := fun _ => True) (doneAg 1 1 3 rfl (doneAg 0 2 0 rfl (.ret trivial))) fun _ _ => ?_
  exact .ret ⟨rfl, rfl⟩

end Cert.AllReduce

end
-- ==== Proof.BodyB.lean ====
/- The waits for the ends of the copies along the height, as steps. -/
module

public import proofs.«01_k».proof.Proof.BodyA

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

variable {m ρ} {K : Dev nD × CI → ℕ} {c : Dev nD}
variable {h0 : A0.IsWhole} {h1 : A1.IsWhole} {h2 : A2.IsWhole} {h3 : A3.IsWhole}

set_option maxHeartbeats 4000000 in
theorem part70 {v : BitVec 1} (hv : v = Scalar.cmpi .ne (Scalar.extui (Scalar.cmpi .slt (hgt c) 3#32)) 0#32) :
    Does m ρ K c (g (!hi (zc c)) [.wsend (.pf 0)] ++ (g (!lo (zc c)) [.wsend (.sf 0)] ++ (g (!hi (zc c)) [.wsend (.pf 1)] ++ (g (!lo (zc c)) [.wsend (.sf 1)]
      ++ (g (!hi (zc c)) [.wsend (.pf 2)] ++ g (!lo (zc c)) [.wsend (.sf 2)])))))
    (k0_part70 (F := F) A0 h0 A1 h1 A2 h2 A3 h3 cc0_scratch2 cc0_scratch3 cc0_scratch4 cc0_scratch5 cc0_scratch6 cc0_scratch7 (hgt c) v) (fun r => r = Scalar.cmpi .ne (Scalar.extui (Scalar.cmpi .slt (hgt c) 3#32)) 0#32) := by
  subst hv
  rw [k0_part70_eq_skeleton]
  unfold k0_part70_skel
  extract_lets
  refine guarded (below c) (fun h hj => ?_) fun _ => ?_
  · exact .cons (step_wsend (.pf 0) rfl (credit_pf _ 0 rfl _ _ _ _)) (hj ⟨⟩)
  refine guarded (overs c) (fun h hj => ?_) fun _ => ?_
  · exact .cons (step_wsend (.sf 0) rfl (credit_sf _ 0 rfl _ _ _ _)) (hj ⟨⟩)
  refine guarded (below c) (fun h hj => ?_) fun _ => ?_
  · exact .cons (step_wsend (.pf 1) rfl (credit_pf _ 1 rfl _ _ _ _)) (hj ⟨⟩)
  refine guarded (overs c) (fun h hj => ?_) fun _ => ?_
  · exact .cons (step_wsend (.sf 1) rfl (credit_sf _ 1 rfl _ _ _ _)) (hj ⟨⟩)
  refine guarded (below c) (fun h hj => ?_) fun _ => ?_
  · exact .cons (step_wsend (.pf 2) rfl (credit_pf _ 2 rfl _ _ _ _)) (hj ⟨⟩)
  rw [← List.append_nil (g _ _)]
  refine guarded (overs c) (fun h hj => ?_) fun _ => .ret rfl
  exact .cons (step_wsend (.sf 2) rfl (credit_sf _ 2 rfl _ _ _ _)) (hj ⟨⟩)

end Cert.AllReduce

end
-- ==== Proof.Body.lean ====
/- The whole body, as the run of steps the plan lists. -/
module

public import proofs.«01_k».proof.Proof.BodyB

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

variable {m ρ} {K : Dev nD × CI → ℕ} {c : Dev nD}
variable {h0 : A0.IsWhole} {h1 : A1.IsWhole} {h2 : A2.IsWhole} {h3 : A3.IsWhole}

set_option maxHeartbeats 4000000 in
/-- The body makes the steps of the plan. -/
theorem body_does : Does m ρ K c (ops (zc c)) (cc0_body (F := F) A0 h0 A1 h1 A2 h2 A3 h3 cc0_scratch2 cc0_scratch3 cc0_scratch4 cc0_scratch5 cc0_scratch6 cc0_scratch7) (fun _ => True) := by
  rw [← body_ops, cc0_body_eq_skeleton]
  unfold cc0_body_skel bodyB
  refine Does.bind part71 ?_
  rintro ⟨d0, v8, v14, w⟩ ⟨e0, e8⟩
  dsimp only at e0 e8
  subst e8 e0
  refine bindL (R := fun _ => True) (doneAg 1 2 0 rfl (.ret trivial)) fun _ _ => ?_
  refine bindL (R := fun _ => True) (doneAg 0 2 1 rfl (.ret trivial)) fun _ _ => ?_
  refine bindL (R := fun _ => True) (doneAg 1 2 1 rfl (doneAg 0 2 2 rfl (.ret trivial))) fun _ _ => ?_
  refine bindL (R := fun _ => True) (doneAg 1 2 2 rfl (.ret trivial)) fun _ _ => ?_
  refine bindL (R := fun r => r = Scalar.cmpi .ne (Scalar.extui (Scalar.cmpi .slt (hgt _) 3#32)) 0#32) (doneAg 0 2 3 rfl (doneAg 1 2 3 rfl (.ret rfl))) fun v hv => ?_
  refine bindL (part70 hv) fun v hv => ?_
  subst hv
  rw [List.flatten_cons, List.flatten_nil, List.append_assoc]
  beta_reduce
  extract_lets
  refine guarded (below _) (fun h hj => ?_) fun _ => ?_
  · exact .cons (step_wsend (.pf 3) rfl (credit_pf _ 3 rfl _ _ _ _)) (hj ⟨⟩)
  refine guarded (F := F) (overs _) (fun h hj => ?_) fun _ => ?_
  · exact .cons (step_wsend (.sf 3) rfl (credit_sf _ 3 rfl _ _ _ _)) (hj ⟨⟩)
  exact .ret trivial

end Cert.AllReduce

end
-- ==== Proof.Pool.lean ====
/- The first rights out of what a device starts with, and its memory back out of the last. -/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## Lists of rights as sets of them -/

theorem sepL_set {I : Type} [DecidableEq I] (l : List I) (h : l.Nodup) (Φ : I → sProp 𝕄) : (sepL (l.map Φ) : sProp 𝕄) = bigSep l.toFinset Φ := by
  induction l with
  | nil => rw [List.map_nil, List.toFinset_nil, bigSep_empty]; rfl
  | cons a l ih =>
    obtain ⟨ha, hl⟩ := List.nodup_cons.mp h
    rw [List.map_cons, List.toFinset_cons, bigSep_insert (by rw [List.mem_toFinset]; exact ha), ← ih hl]; rfl

theorem all_append (c : Dev nD) (σ υ : List Res) : all m ρ c (σ ++ υ) = iprop(all m ρ c σ ∗ all m ρ c υ) := by
  unfold all; rw [List.map_append, sepL_append]
theorem all_set {I : Type} [DecidableEq I] (c : Dev nD) (l : List I) (h : l.Nodup) (f : I → Res) :
    all m ρ c (l.map f) = bigSep l.toFinset fun i => interp m ρ c (f i) := by
  unfold all; rw [List.map_map]; exact sepL_set l h _

theorem allX_nodup : allX.Nodup := by decide +kernel
theorem allX_univ : allX.toFinset = Finset.univ := by decide +kernel

/-- The half chunks of the result. -/
abbrev OI : Type := Fin 2 × Fin 4 × Fin 4
def allOI : List OI := (List.finRange 2).flatMap fun d => (List.finRange 4).flatMap fun o => (List.finRange 4).map fun j => (d, o, j)
def outB (i : OI) : Bf := .out i.1 i.2.1 i.2.2
theorem allOut_eq : allOut = allOI.map outB := by decide +kernel
theorem allOI_nodup : allOI.Nodup := by decide +kernel
theorem allOI_univ : allOI.toFinset = Finset.univ := by decide +kernel
theorem fin4_nodup : (List.finRange 4).Nodup := List.nodup_finRange 4
theorem fin4_univ : (List.finRange 4).toFinset = Finset.univ := by decide

/-! ## The two buffers and the result, as their parts -/

theorem slot_mem (i : S4x512x1024.Idx) (j : Fin 4) : i ∈ (slotR j).set ↔ (i 0).val = j.val := by
  rw [Rect.mem_set_unit]
  constructor
  · intro h; have := h 0; change j.val ≤ _ ∧ _ < j.val + 1 at this; omega
  · intro h a
    fin_cases a
    · change j.val ≤ (i 0).val ∧ (i 0).val < j.val + 1; omega
    · exact ⟨Nat.zero_le _, by show _ < 0 + 512; rw [Nat.zero_add]; exact (i 1).isLt⟩
    · exact ⟨Nat.zero_le _, by show _ < 0 + 1024; rw [Nat.zero_add]; exact (i 2).isLt⟩

theorem slots_apart : ∀ j ∈ (Finset.univ : Finset (Fin 4)), ∀ j' ∈ (Finset.univ : Finset (Fin 4)), j ≠ j' → Disjoint (slotR j).set (slotR j').set := by
  intro j _ j' _ h
  rw [Finset.disjoint_left]
  intro i hi hi'
  exact h (Fin.ext (((slot_mem i j).mp hi).symm.trans ((slot_mem i j').mp hi')))
theorem slots_cover : (Finset.univ : Finset (Fin 4)).biUnion (fun j => (slotR j).set) = Finset.univ := by
  ext i
  simp only [Finset.mem_biUnion, Finset.mem_univ, true_and, iff_true]
  exact ⟨i 0, (slot_mem i _).mpr rfl⟩

def blkOf (c : Dev nD) (i : OI) : Fin 32 := blk c i.1 i.2.1 i.2.2
theorem blkOf_bijective : ∀ c : Dev nD, Function.Injective (blkOf c) ∧ ∀ b, ∃ i, blkOf c i = b := by
  have h : ∀ c : Dev nD, ∀ b, ∃ i, blkOf c i = b := by decide +kernel
  intro c
  exact ⟨(Finite.injective_iff_surjective_of_equiv (Fintype.equivOfCardEq (by rfl))).mpr (h c), h c⟩

/-- The rows and columns of a half chunk. -/
def oset (c : Dev nD) (i : OI) : Finset S8192x1024.Idx := (outR c i.1 i.2.1 i.2.2).set

theorem out_mem (c : Dev nD) (x : S8192x1024.Idx) (i : OI) : x ∈ oset c i ↔ (x 0).val / 256 = (blkOf c i).val := by
  show x ∈ (outR c i.1 i.2.1 i.2.2).set ↔ _
  rw [Rect.mem_set_unit]
  have e := outOff_eq c i.1 i.2.1 i.2.2
  rw [e]
  constructor
  · intro h; have := h 0; change 256 * (blkOf c i).val ≤ _ ∧ _ < 256 * (blkOf c i).val + 256 at this; omega
  · intro h a
    fin_cases a
    · change 256 * (blkOf c i).val ≤ (x 0).val ∧ (x 0).val < 256 * (blkOf c i).val + 256; omega
    · exact ⟨Nat.zero_le _, by show _ < 0 + 1024; rw [Nat.zero_add]; exact (x 1).isLt⟩

theorem outs_apart (c : Dev nD) : ∀ i ∈ (Finset.univ : Finset OI), ∀ i' ∈ (Finset.univ : Finset OI), i ≠ i' →
    Disjoint (oset c i) (oset c i') := by
  intro i _ i' _ h
  rw [Finset.disjoint_left]
  intro x hx hx'
  exact h ((blkOf_bijective c).1 (Fin.ext (((out_mem c x i).mp hx).symm.trans ((out_mem c x i').mp hx'))))
theorem outs_cover (c : Dev nD) : (Finset.univ : Finset OI).biUnion (fun i => oset c i) = Finset.univ := by
  ext x
  simp only [Finset.mem_biUnion, Finset.mem_univ, true_and, iff_true]
  have hx : (x 0).val < 8192 := (x 0).isLt
  obtain ⟨i, hi⟩ := (blkOf_bijective c).2 ⟨(x 0).val / 256, by omega⟩
  exact ⟨i, (out_mem c x i).mpr (by rw [hi])⟩

theorem pf_split (c : Dev nD) (f : Buf (Elt F) ((c : Thread nD τ).loc cc0_scratch0)) :
    (((c : Thread nD τ).loc cc0_scratch0) ↦{fullShare} f : sProp 𝕄) = bigSep Finset.univ fun j : Fin 4 => bp c (.pf j) fullShare f := by
  have e := pointsTo_biUnion (sig := sig) (Ix := Unit) (Val := Elt F) (Name := ℕ) (U := UU) (Lvl := ℕ) (ℓ := (c : Thread nD τ).loc cc0_scratch0) (q := fullShare) (f := f)
    (Finset.univ : Finset (Fin 4)) (fun j => (slotR j).set) slots_apart
  rw [slots_cover] at e
  exact e
theorem sf_split (c : Dev nD) (f : Buf (Elt F) ((c : Thread nD τ).loc cc0_scratch1)) :
    (((c : Thread nD τ).loc cc0_scratch1) ↦{fullShare} f : sProp 𝕄) = bigSep Finset.univ fun j : Fin 4 => bp c (.sf j) fullShare f := by
  have e := pointsTo_biUnion (sig := sig) (Ix := Unit) (Val := Elt F) (Name := ℕ) (U := UU) (Lvl := ℕ) (ℓ := (c : Thread nD τ).loc cc0_scratch1) (q := fullShare) (f := f)
    (Finset.univ : Finset (Fin 4)) (fun j => (slotR j).set) slots_apart
  rw [slots_cover] at e
  exact e
theorem out_split (c : Dev nD) (f : Buf (Elt F) ((c : Thread nD τ).loc cc0_stg1_0)) :
    (((c : Thread nD τ).loc cc0_stg1_0) ↦{fullShare} f : sProp 𝕄) = bigSep Finset.univ fun i : OI => bp c (outB i) fullShare f := by
  have e := pointsTo_biUnion (sig := sig) (Ix := Unit) (Val := Elt F) (Name := ℕ) (U := UU) (Lvl := ℕ) (ℓ := (c : Thread nD τ).loc cc0_stg1_0) (q := fullShare) (f := f)
    (Finset.univ : Finset OI) (fun i => oset c i) (outs_apart c)
  rw [outs_cover] at e
  exact e

theorem pf_join (c : Dev nD) (fs : Fin 4 → Buf (Elt F) ((c : Thread nD τ).loc cc0_scratch0)) :
    (bigSep Finset.univ fun j : Fin 4 => bp c (.pf j) fullShare (fs j)) ⊢ (iprop(∃ f, ((c : Thread nD τ).loc cc0_scratch0) ↦{fullShare} f) : sProp 𝕄) := by
  have e := pointsTo_biUnion_join (sig := sig) (Ix := Unit) (Val := Elt F) (Name := ℕ) (U := UU) (Lvl := ℕ) (ℓ := (c : Thread nD τ).loc cc0_scratch0) (q := fullShare)
    (Finset.univ : Finset (Fin 4)) (fun j => (slotR j).set) fs (fs 0) slots_apart
  rw [slots_cover] at e
  refine e.trans ?_
  iintro ⟨%g, -, H⟩
  iexists g; iexact H
theorem sf_join (c : Dev nD) (fs : Fin 4 → Buf (Elt F) ((c : Thread nD τ).loc cc0_scratch1)) :
    (bigSep Finset.univ fun j : Fin 4 => bp c (.sf j) fullShare (fs j)) ⊢ (iprop(∃ f, ((c : Thread nD τ).loc cc0_scratch1) ↦{fullShare} f) : sProp 𝕄) := by
  have e := pointsTo_biUnion_join (sig := sig) (Ix := Unit) (Val := Elt F) (Name := ℕ) (U := UU) (Lvl := ℕ) (ℓ := (c : Thread nD τ).loc cc0_scratch1) (q := fullShare)
    (Finset.univ : Finset (Fin 4)) (fun j => (slotR j).set) fs (fs 0) slots_apart
  rw [slots_cover] at e
  refine e.trans ?_
  iintro ⟨%g, -, H⟩
  iexists g; iexact H

/-! ## The first rights, and the last -/

theorem all_nine (c : Dev nD) (a1 a2 a3 a4 a5 a6 a7 a8 a9 : List Res) : all m ρ c (a1 ++ (a2 ++ (a3 ++ (a4 ++ (a5 ++ (a6 ++ (a7 ++ (a8 ++ a9))))))))
    = iprop(all m ρ c a1 ∗ all m ρ c a2 ∗ all m ρ c a3 ∗ all m ρ c a4 ∗ all m ρ c a5 ∗ all m ρ c a6 ∗ all m ρ c a7 ∗ all m ρ c a8 ∗ all m ρ c a9) := by
  rw [all_append, all_append, all_append, all_append, all_append, all_append, all_append, all_append]
theorem all_five (c : Dev nD) (a1 a2 a3 a4 a5 : List Res) : all m ρ c (a1 ++ (a2 ++ (a3 ++ (a4 ++ a5))))
    = iprop(all m ρ c a1 ∗ all m ρ c a2 ∗ all m ρ c a3 ∗ all m ρ c a4 ∗ all m ρ c a5) := by
  rw [all_append, all_append, all_append, all_append]
theorem allOut_map (f : Bf → Res) : allOut.map f = allOI.map (fun i => f (outB i)) := by rw [allOut_eq, List.map_map]; rfl
theorem allPf_map (f : Bf → Res) : allPf.map f = (List.finRange 4).map (fun j => f (.pf j)) := by unfold allPf; rw [List.map_map]; rfl
theorem allSf_map (f : Bf → Res) : allSf.map f = (List.finRange 4).map (fun j => f (.sf j)) := by unfold allSf; rw [List.map_map]; rfl

/-- What a device starts with beyond its memory and its credits: its places, and the right to make its signals and copies. -/
def linear (c : Dev nD) : sProp 𝕄 :=
  iprop(atPos ER (barC c) 0 ∅ 0 ∗ (bigSep Finset.univ fun t => atPos ER (sndC c t) 0 ∅ 0) ∗ (bigSep Finset.univ fun t => atPos ER (rcvC c t) 0 ∅ 0)
    ∗ (bigSep Finset.univ fun i => dutyTok ER (barC (nb i c)) 0 (opp i))
    ∗ (bigSep Finset.univ fun t => dutyTok ER (sndC c t) 0 0) ∗ (bigSep Finset.univ fun t => dutyTok ER (rcvC (tgt c t) t) 0 0))

/-- Its credits: its barrier's, and those of the copies that arrive. -/
def credits (c : Dev nD) : sProp 𝕄 :=
  iprop(cred (tallyAt (barC c) () 4) ∗ bigSep (allX.filter (activeR (zc c))).toFinset fun t => cred (tallyAt (rcvC c t) () (NX t)))

def heap (c : Dev nD) : sProp 𝕄 :=
  iprop((∃ f, ((c : Thread nD τ).loc cc0_scratch0) ↦{fullShare} f) ∗ (∃ f, ((c : Thread nD τ).loc cc0_scratch1) ↦{fullShare} f))

theorem junk_of (c : Dev nD) (b : Bf) (f : (bufR b).ty.Contents (Elt F)) : bp c b fullShare f ⊢ (interp m ρ c (.junk b) : sProp 𝕄) := by
  show _ ⊢ iprop(∃ f, bp c b fullShare f)
  iintro H; iexists f; iexact H

theorem first_rights (c : Dev nD) :
    iprop(linear c ∗ credits c ∗ heap c ∗ ∃ f, ((c : Thread nD τ).loc cc0_stg1_0) ↦{fullShare} f) ⊢ (all m ρ c (σ₀ (zc c)) : sProp 𝕄) := by
  unfold σ₀
  rw [all_nine, allOut_map, allPf_map, allSf_map,
    all_set m ρ c _ fin4_nodup .btok, all_set m ρ c _ (allX_nodup.filter _) .tok, all_set m ρ c _ allX_nodup .spos, all_set m ρ c _ allX_nodup .rpos,
    all_set m ρ c _ (allX_nodup.filter _) .rcr, all_set m ρ c _ allOI_nodup (fun i => .junk (outB i)), all_set m ρ c _ fin4_nodup (fun j => .junk (.pf j)),
    all_set m ρ c _ fin4_nodup (fun j => .junk (.sf j)), fin4_univ, allX_univ, allOI_univ]
  have hpf (f) : (((c : Thread nD τ).loc cc0_scratch0) ↦{fullShare} f) ⊢ (bigSep Finset.univ fun j => interp m ρ c (.junk (.pf j)) : sProp 𝕄) := by
    rw [pf_split]; exact bigSep_mono fun j _ => junk_of m ρ c (.pf j) f
  have hsf (f) : (((c : Thread nD τ).loc cc0_scratch1) ↦{fullShare} f) ⊢ (bigSep Finset.univ fun j => interp m ρ c (.junk (.sf j)) : sProp 𝕄) := by
    rw [sf_split]; exact bigSep_mono fun j _ => junk_of m ρ c (.sf j) f
  have hout (f) : (((c : Thread nD τ).loc cc0_stg1_0) ↦{fullShare} f) ⊢ (bigSep Finset.univ fun i => interp m ρ c (.junk (outB i)) : sProp 𝕄) := by
    rw [out_split]; exact bigSep_mono fun i _ => junk_of m ρ c (outB i) f
  have hb : iprop(atPos ER (barC c) 0 ∅ 0 ∗ cred (tallyAt (barC c) () 4)) ⊢ (all m ρ c [.bpos, .bcr] : sProp 𝕄) := by
    show _ ⊢ iprop(atPos ER (barC c) 0 ∅ 0 ∗ cred (tallyAt (barC c) () 4) ∗ emp)
    iintro ⟨Hb, Hc⟩
    isplitl [Hb]; · iexact Hb
    isplitl [Hc]; · iexact Hc
    iempintro
  have htok : iprop((bigSep Finset.univ fun t => dutyTok ER (sndC c t) 0 0) ∗ (bigSep Finset.univ fun t => dutyTok ER (rcvC (tgt c t) t) 0 0))
      ⊢ (bigSep (allX.filter (active (zc c))).toFinset fun t => interp m ρ c (.tok t) : sProp 𝕄) := by
    rw [← bigSep_sep']; exact bigSep_subset (Finset.subset_univ _)
  unfold linear credits heap
  iintro ⟨⟨Hb, Hs, Hr, Hbt, Hst, Hrt⟩, ⟨Hbc, Hrc⟩, ⟨⟨%f0, H0⟩, ⟨%f1, H1⟩⟩, ⟨%f2, H2⟩⟩
  isplitl [Hbt]; · iexact Hbt
  isplitl [Hb Hbc]
  · iapply hb; isplitl [Hb] <;> iassumption
  isplitl [Hst Hrt]
  · iapply htok; isplitl [Hst] <;> iassumption
  isplitl [Hs]; · iexact Hs
  isplitl [Hr]; · iexact Hr
  isplitl [Hrc]; · iexact Hrc
  isplitl [H2]; · iapply (hout f2) $$ H2
  isplitl [H0]; · iapply (hpf f0) $$ H0
  iapply (hsf f1) $$ H1

/-- Which contents a slot of the scratch buffers ends with. -/
def lastPf (c : Dev nD) (j : Fin 4) : (bufR (.pf j)).ty.Contents (Elt F) :=
  if zc c ≠ 0 ∧ zc c = 3 ∧ 2 ≤ j.val then rawC m ρ c (.pf j) else valC m ρ c (.pf j)
def lastSf (c : Dev nD) (j : Fin 4) : (bufR (.sf j)).ty.Contents (Elt F) :=
  if zc c = 0 ∧ j.val < 2 then rawC m ρ c (.sf j) else valC m ρ c (.sf j)

/-- What a device ends with beyond its places. -/
def memory (c : Dev nD) : sProp 𝕄 := iprop((((c : Thread nD τ).loc cc0_stg1_0) ↦{fullShare} OUTc m ρ (zc c)) ∗ heap c)

theorem last_rights (c : Dev nD) :
    (all m ρ c (σ₁ (zc c)) : sProp 𝕄) ⊢ iprop(atPos ER (barC c) 1 ∅ 0 ∗ (bigSep Finset.univ fun t => interp m ρ c (endS (zc c) t))
      ∗ (bigSep Finset.univ fun t => interp m ρ c (endR (zc c) t)) ∗ memory m ρ c) := by
  unfold σ₁
  show iprop(_ ∗ all m ρ c _) ⊢ _
  rw [all_five, allOut_map, all_set m ρ c _ allX_nodup (endS (zc c)), all_set m ρ c _ allX_nodup (endR (zc c)),
    all_set m ρ c _ allOI_nodup (fun i => .val (outB i)), all_set m ρ c _ fin4_nodup (endPf (zc c)), all_set m ρ c _ fin4_nodup (endSf (zc c)),
    fin4_univ, allX_univ, allOI_univ]
  have hpf (j : Fin 4) : interp m ρ c (endPf (zc c) j) = bp c (.pf j) fullShare (lastPf m ρ c j) := by
    unfold endPf lastPf
    by_cases h : zc c ≠ 0 ∧ zc c = 3 ∧ 2 ≤ j.val
    · rw [if_pos h, if_pos h]; rfl
    · rw [if_neg h, if_neg h]; rfl
  have hsf (j : Fin 4) : interp m ρ c (endSf (zc c) j) = bp c (.sf j) fullShare (lastSf m ρ c j) := by
    unfold endSf lastSf
    by_cases h : zc c = 0 ∧ j.val < 2
    · rw [if_pos h, if_pos h]; rfl
    · rw [if_neg h, if_neg h]; rfl
  rw [bigSep_congr fun j _ => hpf j, bigSep_congr fun j _ => hsf j]
  have ho : (bigSep Finset.univ fun i => interp m ρ c (.val (outB i)) : sProp 𝕄) ⊢ (((c : Thread nD τ).loc cc0_stg1_0) ↦{fullShare} OUTc m ρ (zc c)) :=
    Entails.of_eq (out_split (F := F) c (OUTc m ρ (zc c))).symm
  unfold memory heap
  show iprop(atPos ER (barC c) 1 ∅ 0 ∗ _) ⊢ _
  iintro ⟨Hb, Hs, Hr, Ho, H0, H1⟩
  isplitl [Hb]; · iexact Hb
  isplitl [Hs]; · iexact Hs
  isplitl [Hr]; · iexact Hr
  isplitl [Ho]; · iapply ho $$ Ho
  isplitl [H0]; · iapply (pf_join (F := F) c (lastPf m ρ c)) $$ H0
  iapply (sf_join (F := F) c (lastSf m ρ c)) $$ H1

end Cert.AllReduce

end
-- ==== Proof.Ghost.lean ====
/- The semaphores opened at the launch, and the rights to pay them dealt out. -/
module

public import proofs.«01_k».proof.Proof.Pool

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The semaphores of a device, by kind -/

/-- The kernel's own semaphores: the ends of its copies, and the arrivals. -/
def osem : X ⊕ X → SemLoc sig
  | .inl t => .dma (ssem t)
  | .inr t => .dma (rsem t)

def ciE : Unit ⊕ (X ⊕ X) ≃ CI where
  toFun
    | .inl _ => .bar
    | .inr (.inl t) => .snd t
    | .inr (.inr t) => .rcv t
  invFun
    | .bar => .inl ()
    | .snd t => .inr (.inl t)
    | .rcv t => .inr (.inr t)
  left_inv := by rintro (_ | _ | _) <;> rfl
  right_inv := by rintro (_ | _ | _) <;> rfl

theorem bigSep_CI (Φ : CI → sProp 𝕄) :
    bigSep Finset.univ Φ = iprop(Φ .bar ∗ (bigSep Finset.univ fun t => Φ (.snd t)) ∗ bigSep Finset.univ fun t => Φ (.rcv t)) := by
  rw [bigSep_univ_equiv ciE, bigSep_univ_sum, bigSep_univ_sum, bigSep_univ_of_subsingleton ()]; rfl

theorem ownSems_eq (c : Dev nD) : (Pipeline.ownSems0 (Ix := Unit) (Name := ℕ) (U := UU) (Lvl := ℕ) (Val := Elt F) (τ := τ) osem c : sProp 𝕄)
    = iprop((bigSep Finset.univ fun t => semVal (sndC c t) 0) ∗ bigSep Finset.univ fun t => semVal (rcvC c t) 0) := by
  unfold Pipeline.ownSems0; rw [bigSep_univ_sum]; rfl
theorem unscopedSems_eq (c : Dev nD) : (unscopedSems0 c : sProp 𝕄) = semVal (barC c) 0 := by
  unfold unscopedSems0; rw [bigSep_eq_bigSepL_of_eq [SemLoc.reg barS] (by decide +kernel) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems_eq, unscopedSems_eq, bigSep_CI]
  iintro ⟨⟨HS, HV⟩, HB⟩
  isplitl [HB]; · iexact HB
  isplitl [HS]; · iexact HS
  iexact HV

theorem ownSemFacts : Pipeline.OwnSemFacts cfg0.spec osem where
  isScoped := by decide +kernel
  inj := by
    have h : Function.Injective (csem ∘ ciE ∘ (Sum.inr : X ⊕ X → Unit ⊕ (X ⊕ X))) := csem_injective.comp (ciE.injective.comp Sum.inr_injective)
    intro a b hab
    apply h
    rcases a with a | a <;> rcases b with b | b <;> exact hab
  disj := by decide +kernel

/-! ## The launch's element of the schedule, and what each device is dealt of it -/

def cells : Finset (GSem nD τ sig) := Finset.univ.map ⟨kcell, kcell_injective⟩

/-- The payments, by the semaphore they are made to: the four to a device's barrier, one to each of its others. -/
abbrev TI : Type := Dev nD × (Fin 4 ⊕ (X ⊕ X))
def pay : TI → GSem nD τ sig × ℕ × Fin 4
  | (c, .inl k) => (barC c, 0, k)
  | (c, .inr (.inl t)) => (sndC c t, 0, 0)
  | (c, .inr (.inr t)) => (rcvC c t, 0, 0)
def payCI : TI → (Dev nD × CI) × Fin 4
  | (c, .inl k) => ((c, .bar), k)
  | (c, .inr (.inl t)) => ((c, .snd t), 0)
  | (c, .inr (.inr t)) => ((c, .rcv t), 0)
theorem payCI_injective : Function.Injective payCI := by
  rintro ⟨c, k | t | t⟩ ⟨c', k' | t' | t'⟩ h <;> cases h <;> rfl
theorem pay_injective : Function.Injective pay := by
  intro a b h
  have e : ∀ a, pay a = (kcell (payCI a).1, 0, (payCI a).2) := by rintro ⟨c, k | t | t⟩ <;> rfl
  rw [e, e] at h
  have h1 := kcell_injective (congrArg (fun x : GSem nD τ sig × ℕ × Fin 4 => x.1) h)
  have h2 : (payCI a).2 = (payCI b).2 := congrArg (fun x : GSem nD τ sig × ℕ × Fin 4 => x.2.2) h
  exact payCI_injective (Prod.ext h1 h2)
def pays : Finset (GSem nD τ sig × ℕ × Fin 4) := Finset.univ.map ⟨pay, pay_injective⟩

def u₀ : UU := (initOf (Pipeline.cells cfgs cellOf_inj) (Pipeline.launchToks cfgs cellOf_inj), initOf cells pays)

/-- The rights to make the payments to device `c`'s own semaphores. -/
def toks (c : Dev nD) : sProp 𝕄 :=
  iprop((bigSep Finset.univ fun k => dutyTok ER (barC c) 0 k) ∗ (bigSep Finset.univ fun t => dutyTok ER (sndC c t) 0 0)
    ∗ bigSep Finset.univ fun t => dutyTok ER (rcvC c t) 0 0)

def places (c : Dev nD) : sProp 𝕄 :=
  bigSep Finset.univ fun k : CI => iprop(atPos ER (kcell (c, k)) 0 ∅ 0 ∗ reached ER (kcell (c, k)) 0)

def G (c : Dev nD) : sProp 𝕄 := iprop((bigSep Finset.univ fun k : CI => roundState ER (Rd m ρ) (kcell (c, k)) 0) ∗ places c ∗ toks c)

theorem fund_all : BI.own (ER (initOf cells pays)) ⊢ (|==> bigSep Finset.univ (G m ρ) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep pays (fun x => (dutyTok ER x.1 x.2.1 x.2.2 : sProp 𝕄)) = bigSep Finset.univ fun c : Dev nD => toks c := by
    unfold pays; rw [bigSep_map, bigSep_univ_prod]
    exact bigSep_congr fun c _ => by unfold toks; rw [bigSep_univ_sum, bigSep_univ_sum]; rfl
  iintro HX
  imod (Rounds.fund ER (Rd m ρ) cells pays) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k)))) ∗ places c ∗ toks c) := by
  have hi : iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod hi $$ [Hv Hst] with Hinv
  · isplitl [Hv] <;> iassumption
  imodintro
  isplitl [Hinv]; · iexact Hinv
  isplitl [Hat]; · iexact Hat
  iexact Htok

/-! ## The payments dealt to those that make them -/

def barE : Dev nD × Fin 4 ≃ Dev nD × Fin 4 where
  toFun x := (nb x.2 x.1, opp x.2)
  invFun x := (nb x.2 x.1, opp x.2)
  left_inv x := Prod.ext (nb_opp x.2 x.1) (opp_opp x.2)
  right_inv x := Prod.ext (nb_opp x.2 x.1) (opp_opp x.2)
def tgtE : Dev nD × X ≃ Dev nD × X where
  toFun x := (tgt x.1 x.2, x.2)
  invFun x := (nb (opp (dirX x.2)) x.1, x.2)
  left_inv x := Prod.ext (nb_opp (dirX x.2) x.1) rfl
  right_inv x := Prod.ext (by
    have := nb_opp (opp (dirX x.2)) x.1
    rw [opp_opp] at this; exact this) rfl

theorem bar_around : (bigSep Finset.univ fun c : Dev nD => bigSep Finset.univ fun k : Fin 4 => dutyTok ER (barC c) 0 k : sProp 𝕄)
    = bigSep Finset.univ fun c : Dev nD => bigSep Finset.univ fun i : Fin 4 => dutyTok ER (barC (nb i c)) 0 (opp i) := by
  rw [← bigSep_univ_prod (fun x : Dev nD × Fin 4 => (dutyTok ER (barC x.1) 0 x.2 : sProp 𝕄)), bigSep_univ_equiv barE, bigSep_univ_prod]; rfl
theorem rcv_around : (bigSep Finset.univ fun c : Dev nD => bigSep Finset.univ fun t : X => dutyTok ER (rcvC c t) 0 0 : sProp 𝕄)
    = bigSep Finset.univ fun c : Dev nD => bigSep Finset.univ fun t : X => dutyTok ER (rcvC (tgt c t) t) 0 0 := by
  rw [← bigSep_univ_prod (fun x : Dev nD × X => (dutyTok ER (rcvC x.1 x.2) 0 0 : sProp 𝕄)), bigSep_univ_equiv tgtE, bigSep_univ_prod]; rfl

/-- What every device is dealt in the end, under the semaphores' names: the invariants, that each semaphore is at its
    first round, and its own rights. -/
def known (K : Dev nD × CI → ℕ) : sProp 𝕄 :=
  iprop((bigSep Finset.univ fun ck : Dev nD × CI => cellInv ER (Rd (F := F) m ρ) (K ck) (kcell ck))
    ∗ bigSep Finset.univ fun ck : Dev nD × CI => (reached ER (kcell ck) 0 : sProp 𝕄))
instance known_persistent (K : Dev nD × CI → ℕ) : BI.Persistent (known (F := F) m ρ K) := by unfold known; infer_instance
def G' (c : Dev nD) : sProp 𝕄 := iprop(∃ K, known m ρ K ∗ linear c)

theorem linears : iprop((bigSep Finset.univ fun c : Dev nD => bigSep Finset.univ fun k : CI => atPos ER (kcell (c, k)) 0 ∅ 0) ∗ bigSep Finset.univ fun c : Dev nD => toks c)
    ⊢ (bigSep Finset.univ fun c : Dev nD => linear c : sProp 𝕄) := by
  rw [bigSep_congr (s := Finset.univ) (fun (c : Dev nD) _ => bigSep_CI (F := F) fun k => atPos ER (kcell (c, k)) 0 ∅ 0)]
  unfold toks linear
  simp only [bigSep_sep']
  rw [bar_around, rcv_around]
  iintro ⟨⟨HB, HS, HR⟩, TB, TS, TR⟩
  isplitl [HB]; · iexact HB
  isplitl [HS]; · iexact HS
  isplitl [HR]; · iexact HR
  isplitl [TB]; · iexact TB
  isplitl [TS]; · iexact TS
  iexact TR

theorem regroup :
    (bigSep Finset.univ fun c : Dev nD => iprop((bigSep Finset.univ fun k => iprop(∃ κ : ℕ, cellInv ER (Rd m ρ) κ (kcell (c, k)))) ∗ places c ∗ toks c) : sProp 𝕄)
      ⊢ bigSep Finset.univ (G' m ρ) := by
  unfold places
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Hl := (linears (F := F)) $$ [Hat Htok]
  · isplitl [Hat] <;> iassumption
  iapply (bigSep_with_persistent (R := known m ρ K) (Φ := fun c => linear c) fun c _ => show iprop(known m ρ K ∗ linear c) ⊢ G' m ρ c by
    unfold G'; iintro H; iexists K; iexact H)
  isplitr
  · unfold known; isplitl; · iexact HI
    iexact HR
  iexact Hl

/-- All the devices' semaphores opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

end Cert.AllReduce

end
-- ==== Proof.Credit.lean ====
/- The credits the launch deals: each barrier its four signals, each arrival its copy. -/
module

public import proofs.«01_k».proof.Proof.Ghost

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## What the devices owe at the launch -/

/-- What device `c` owes at the launch: its signals, and the arrivals of its copies. -/
def O₀ (c : Dev nD) : CellTallies nD τ sig Unit := owed c (σ₀ (zc c))

theorem owed_map {I : Type} (c : Dev nD) (f : I → Res) (l : List I) (g : GSem nD τ sig) :
    owed c (l.map f) g () = (l.map fun i => owe1 c (f i) g ()).sum := by
  induction l with
  | nil => rfl
  | cons a l ih =>
    rw [List.map_cons, List.map_cons, List.sum_cons, ← ih, Nat.add_comm]; rfl

theorem owed_none {I : Type} (c : Dev nD) (f : I → Res) (hf : ∀ i, owe1 c (f i) = 0) (l : List I) : owed c (l.map f) = 0 :=
  owed_zero c fun r hr => by obtain ⟨i, -, rfl⟩ := List.mem_map.mp hr; exact hf i

theorem O₀_eq (c : Dev nD) : O₀ c = owed c ((allX.filter (active (zc c))).map .tok) + owed c ((List.finRange 4).map .btok) := by
  unfold O₀ σ₀
  rw [allOut_map, allPf_map, allSf_map]
  have h (a1 a2 a3 a4 a5 a6 a7 a8 a9 : List Res) (h2 : owed c a2 = 0) (h4 : owed c a4 = 0) (h5 : owed c a5 = 0) (h6 : owed c a6 = 0) (h7 : owed c a7 = 0)
      (h8 : owed c a8 = 0) (h9 : owed c a9 = 0) : owed c (a1 ++ (a2 ++ (a3 ++ (a4 ++ (a5 ++ (a6 ++ (a7 ++ (a8 ++ a9)))))))) = owed c a3 + owed c a1 := by
    rw [owed_append, owed_append, owed_append, owed_append, owed_append, owed_append, owed_append, owed_append, h2, h4, h5, h6, h7, h8, h9]
    simp only [zero_add, add_zero]
  exact h _ _ _ _ _ _ _ _ _ (owed_zero c fun r hr => by
      rcases List.mem_cons.mp hr with rfl | hr
      · rfl
      · rw [List.mem_singleton.mp hr]; rfl)
    (owed_none c _ (fun _ => rfl) _) (owed_none c _ (fun _ => rfl) _) (owed_none c _ (fun _ => rfl) _) (owed_none c _ (fun _ => rfl) _)
    (owed_none c _ (fun _ => rfl) _) (owed_none c _ (fun _ => rfl) _)

theorem O₀_at (c : Dev nD) (g : GSem nD τ sig) :
    O₀ c g () = ((allX.filter (active (zc c))).map fun t => owe1 c (.tok t) g ()).sum + ((List.finRange 4).map fun i => owe1 c (.btok i) g ()).sum := by
  rw [O₀_eq, ← owed_map, ← owed_map]; rfl

theorem bar_inj {a b : Dev nD} : barC a = barC b ↔ a = b :=
  ⟨fun h => congrArg Prod.fst (kcell_injective (a₁ := (a, .bar)) (a₂ := (b, .bar)) h), fun h => h ▸ rfl⟩
theorem rcv_inj {a b : Dev nD} {t t' : X} : rcvC a t = rcvC b t' ↔ a = b ∧ t = t' := by
  refine ⟨fun h => ?_, fun h => by obtain ⟨rfl, rfl⟩ := h; rfl⟩
  have e := kcell_injective (a₁ := (a, .rcv t)) (a₂ := (b, .rcv t')) h
  exact ⟨congrArg Prod.fst e, by have := congrArg Prod.snd e; cases this; rfl⟩
theorem bar_ne_rcv (a b : Dev nD) (t : X) : barC a ≠ rcvC b t := fun h => by
  have := congrArg Prod.snd (kcell_injective (a₁ := (a, .bar)) (a₂ := (b, .rcv t)) h)
  cases this

theorem sum_zero {I : Type} (l : List I) (f : I → ℕ) (h : ∀ i ∈ l, f i = 0) : (l.map f).sum = 0 := by
  rw [List.sum_eq_zero]; intro x hx; obtain ⟨i, hi, rfl⟩ := List.mem_map.mp hx; exact h i hi

theorem O₀_bar (d c : Dev nD) : O₀ d (barC c) () = ∑ i : Fin 4, if nb i d = c then 1 else 0 := by
  rw [O₀_at, sum_zero _ _ fun t _ => ?_, Nat.zero_add, Fin.sum_univ_def]
  · refine congrArg List.sum (List.map_congr_left fun i _ => ?_)
    show tallyAt (barC (nb i d)) () 1 (barC c) () = _
    rw [tallyAt_apply]
    by_cases h : nb i d = c
    · rw [if_pos h, if_pos ⟨(bar_inj.mpr h).symm, rfl⟩]
    · rw [if_neg h, if_neg fun h' => h (bar_inj.mp h'.1.symm)]
  · show tallyAt (rcvC (tgt d t) t) () (NX t) (barC c) () = 0
    rw [tallyAt_apply, if_neg fun h => bar_ne_rcv _ _ _ h.1]

theorem sum_pick {I : Type} [DecidableEq I] (l : List I) (hl : l.Nodup) (t : I) (v : ℕ) (f : I → ℕ) (hf : ∀ i, f i = if i = t then v else 0) :
    (l.map f).sum = if t ∈ l then v else 0 := by
  induction l with
  | nil => rfl
  | cons a l ih =>
    obtain ⟨ha, hl⟩ := List.nodup_cons.mp hl
    rw [List.map_cons, List.sum_cons, ih hl, hf]
    by_cases h : a = t
    · subst h; rw [if_pos rfl, if_neg ha, if_pos (List.mem_cons_self ..), Nat.add_zero]
    · rw [if_neg h, Nat.zero_add]
      by_cases h' : t ∈ l
      · rw [if_pos h', if_pos (List.mem_cons_of_mem _ h')]
      · rw [if_neg h', if_neg fun hm => (List.mem_cons.mp hm).elim (fun e => h e.symm) h']

theorem active_of_tgt : ∀ (z : Fin 4) (t : X), activeR (tgtz z t) t = true → active z t = true := by decide +kernel

theorem O₀_rcv (d c : Dev nD) (t : X) (h : activeR (zc c) t = true) : O₀ d (rcvC c t) () = if d = nb (opp (dirX t)) c then NX t else 0 := by
  rw [O₀_at, sum_zero (List.finRange 4) _ fun i _ => ?_, Nat.add_zero]
  · by_cases hd : tgt d t = c
    · have e : d = nb (opp (dirX t)) c := by rw [← hd]; exact (nb_opp (dirX t) d).symm
      have ha : active (zc d) t = true := by
        rw [← hd, zc_tgt] at h
        exact active_of_tgt _ _ h
      rw [if_pos e, sum_pick _ (allX_nodup.filter _) t (NX t) _ fun t' => ?_, if_pos (List.mem_filter.mpr ⟨by rw [← List.mem_toFinset, allX_univ]; exact Finset.mem_univ _, ha⟩)]
      show tallyAt (rcvC (tgt d t') t') () (NX t') (rcvC c t) () = _
      rw [tallyAt_apply]
      by_cases ht : t' = t
      · subst ht; rw [if_pos rfl, if_pos ⟨rcv_inj.mpr ⟨hd.symm, rfl⟩, rfl⟩]
      · rw [if_neg ht, if_neg fun h' => ht (rcv_inj.mp h'.1).2.symm]
    · rw [if_neg fun e => hd (by rw [e]; have := nb_opp (opp (dirX t)) c; rw [opp_opp] at this; exact this)]
      refine sum_zero _ _ fun t' _ => ?_
      show tallyAt (rcvC (tgt d t') t') () (NX t') (rcvC c t) () = 0
      rw [tallyAt_apply, if_neg fun h' => hd ?_]
      obtain ⟨e1, e2⟩ := rcv_inj.mp h'.1
      rw [e2]; exact e1.symm
  · show tallyAt (barC (nb i d)) () 1 (rcvC c t) () = 0
    rw [tallyAt_apply, if_neg fun h => bar_ne_rcv _ _ _ h.1.symm]

theorem launch_bar (c : Dev nD) :
    tallyOn (barC c) (launchCredit (Pipeline.owing O₀) 0 (barC c)) = (tallyAt (barC c) () 4 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide +kernel

theorem launch_rcv (c : Dev nD) (t : X) (h : activeR (zc c) t = true) :
    tallyOn (rcvC c t) (launchCredit (Pipeline.owing O₀) 0 (rcvC c t)) = (tallyAt (rcvC c t) () (NX t) : CellTallies nD τ sig Unit) := by
  unfold tallyAt; refine congrArg _ (Finsupp.ext fun u => ?_); cases u
  rw [Pipeline.launchCredit_owing, Finsupp.single_eq_same, Finset.sum_congr rfl fun d _ => O₀_rcv d c t h, Finset.sum_ite_eq' Finset.univ _ fun _ => NX t,
    if_pos (Finset.mem_univ _)]

theorem creds (c : Dev nD) : (Pipeline.launchCred O₀ c : sProp 𝕄) ⊢ credits c := by
  unfold Pipeline.launchCred
  refine (bigSep_subset (Finset.subset_univ (Finset.univ.map (⟨csem, csem_injective⟩ : CI ↪ SemLoc sig)))).trans ?_
  rw [bigSep_map, bigSep_CI]
  have hb : (cred (tallyOn (barC c) (launchCredit (Pipeline.owing O₀) 0 (barC c))) : sProp 𝕄) ⊢ cred (tallyAt (barC c) () 4) := by rw [launch_bar]
  have hr : (bigSep Finset.univ fun t => cred (tallyOn (rcvC c t) (launchCredit (Pipeline.owing O₀) 0 (rcvC c t))) : sProp 𝕄)
      ⊢ bigSep (allX.filter (activeR (zc c))).toFinset fun t => cred (tallyAt (rcvC c t) () (NX t)) := by
    refine (bigSep_subset (Finset.subset_univ _)).trans (bigSep_mono fun t ht => ?_)
    rw [launch_rcv c t (List.mem_filter.mp (List.mem_toFinset.mp ht)).2]
    exact BI.Entails.refl _
  have key (A B C A' C' : sProp 𝕄) (h : A ⊢ A') (k : C ⊢ C') : iprop(A ∗ B ∗ C) ⊢ iprop(A' ∗ C') := by
    iintro ⟨HA, -, HC⟩
    isplitl [HA]; · iapply h $$ HA
    iapply k $$ HC
  exact key _ _ _ _ _ hb hr

/-! ## The staging waits -/

theorem lev_pos (z : Fin 4) (t : X) : 0 < lev z t := by
  have h : ∀ t, 0 < posn t := by decide +kernel
  unfold lev; have := h t; omega

theorem owed_cases (c : Dev nD) {σ : List Res} {g : GSem nD τ sig} {u : Unit} (hg : 0 < owed c σ g u) :
    (∃ i, g = barC (nb i c)) ∨ ∃ t, g = rcvC (tgt c t) t := by
  induction σ with
  | nil => exact absurd hg (Nat.lt_irrefl 0)
  | cons r σ ih =>
    by_cases h0 : 0 < owed c σ g u
    · exact ih h0
    · have hr : 0 < owe1 c r g u := by
        have : owed c (r :: σ) g u = owed c σ g u + owe1 c r g u := rfl
        omega
      have hz : ¬ 0 < (0 : CellTallies nD τ sig Unit) g u := Nat.lt_irrefl 0
      cases r with
      | btok i =>
        refine .inl ⟨i, ?_⟩
        change 0 < tallyAt (barC (nb i c)) () 1 g u at hr
        rw [tallyAt_apply] at hr
        by_contra hn
        rw [if_neg fun h' => hn h'.1] at hr
        exact Nat.lt_irrefl 0 hr
      | tok t =>
        refine .inr ⟨t, ?_⟩
        change 0 < tallyAt (rcvC (tgt c t) t) () (NX t) g u at hr
        rw [tallyAt_apply] at hr
        by_contra hn
        rw [if_neg fun h' => hn h'.1] at hr
        exact Nat.lt_irrefl 0 hr
      | _ => exact absurd hr hz

theorem mayWait_stage (c : Dev nD) (s : DmaSem sig) (hs : decode s = none) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by rcases owed_cases c hg with ⟨i, rfl⟩ | ⟨t, rfl⟩ <;> exact Finset.mem_singleton_self _)
      (fun p hp => by rw [Finset.mem_singleton.mp hp]; dsimp only [lv]; rw [hs])
      (fun g u hg => by
        rcases owed_cases c hg with ⟨i, rfl⟩ | ⟨t, rfl⟩
        · show 0 < lv (barC _) (); rw [lv_bar]; exact Nat.one_pos
        · show 0 < lv (rcvC _ _) (); rw [lv_rcv]; exact lev_pos _ _)
  · rw [MayWait_zero]; iintro -; iempintro

end Cert.AllReduce

end
-- ==== Proof.Launch.lean ====
/- Each device's run of the body, from the launch's start to closed semaphores. -/
module

public import proofs.«01_k».proof.Proof.Credit

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## Before and after the body -/

def start (c : Dev nD) : sProp 𝕄 := iprop((∃ K, recs m ρ K ∗ linear c) ∗ credits c)
def Φ₀ (c : Dev nD) : sProp 𝕄 := iprop(start m ρ c ∗ heap c)
/-- Afterwards every semaphore is closed at zero. -/
def Φ₁ (c : Dev nD) : sProp 𝕄 :=
  iprop(semVal (barC c) 0 ∗ (bigSep Finset.univ fun t => semVal (sndC c t) 0) ∗ (bigSep Finset.univ fun t => semVal (rcvC c t) 0) ∗ heap c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUTc m ρ (zc c)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_full (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-! ## Closing the semaphores -/

section
variable (K : Dev nD × CI → ℕ) (c : Dev nD)

theorem close_bar : iprop(recs m ρ K ∗ atPos ER (barC c) 1 ∅ 0) ⊢ (|={Set.univ}=> semVal (barC c) 0 : sProp 𝕄) := by
  have h : iprop(cellInv ER (Rd m ρ) (K (c, .bar)) (barC c) ∗ atPos ER (barC c) 1 ∅ 0) ⊢ (|={Set.univ}=> semVal (barC c) 0 : sProp 𝕄) :=
    Rounds.cell_close ER (Rd m ρ) (Set.mem_univ (K (c, .bar))) (fun h => h) (duties_later m ρ (barC c))
  have hi := recs_inv m ρ K (c, .bar)
  iintro ⟨H1, H2⟩
  iapply h
  isplitl [H1]; · iapply hi $$ H1
  iexact H2

theorem close_snd (t : X) : iprop(recs m ρ K ∗ interp m ρ c (endS (zc c) t)) ⊢ (|={Set.univ}=> semVal (sndC c t) 0 : sProp 𝕄) := by
  have h (r : ℕ) (hd : ∀ r', r ≤ r' → (Rd (F := F) m ρ).duties (sndC c t) r' = ∅) :
      iprop(cellInv ER (Rd m ρ) (K (c, .snd t)) (sndC c t) ∗ atPos ER (sndC c t) r ∅ 0) ⊢ (|={Set.univ}=> semVal (sndC c t) 0 : sProp 𝕄) :=
    Rounds.cell_close ER (Rd m ρ) (Set.mem_univ (K (c, .snd t))) (fun h => h) hd
  refine (sep_mono_left (recs_inv m ρ K (c, .snd t))).trans ?_
  unfold endS
  by_cases ha : active (zc c) t = true
  · rw [if_pos ha]; exact h 1 (duties_later m ρ _)
  · rw [if_neg ha]; exact h 0 (duties_idle_snd m ρ c t (Bool.eq_false_iff.mpr ha))

theorem close_rcv (t : X) : iprop(recs m ρ K ∗ interp m ρ c (endR (zc c) t)) ⊢ (|={Set.univ}=> semVal (rcvC c t) 0 : sProp 𝕄) := by
  have h (r : ℕ) (hd : ∀ r', r ≤ r' → (Rd (F := F) m ρ).duties (rcvC c t) r' = ∅) :
      iprop(cellInv ER (Rd m ρ) (K (c, .rcv t)) (rcvC c t) ∗ atPos ER (rcvC c t) r ∅ 0) ⊢ (|={Set.univ}=> semVal (rcvC c t) 0 : sProp 𝕄) :=
    Rounds.cell_close ER (Rd m ρ) (Set.mem_univ (K (c, .rcv t))) (fun h => h) hd
  refine (sep_mono_left (recs_inv m ρ K (c, .rcv t))).trans ?_
  unfold endR
  by_cases ha : activeR (zc c) t = true
  · rw [if_pos ha]; exact h 1 (duties_later m ρ _)
  · rw [if_neg ha]; exact h 0 (duties_idle_rcv m ρ c t (Bool.eq_false_iff.mpr ha))

/-- The rights left at the end, turned into the final state. -/
theorem finish : iprop(recs m ρ K ∗ all m ρ c (σ₁ (zc c)))
    ⊢ (|={Set.univ}=> iprop(Φ₁ c ∗ (((c : Thread nD τ).loc cc0_stg1_0) ↦{fullShare} OUTc m ρ (zc c))) : sProp 𝕄) := by
  have hb := close_bar m ρ K c
  have hs : iprop(recs m ρ K ∗ bigSep Finset.univ fun t => interp m ρ c (endS (zc c) t))
      ⊢ (|={Set.univ}=> bigSep Finset.univ fun t => semVal (sndC c t) 0 : sProp 𝕄) :=
    (bigSep_with_persistent (R := recs m ρ K) fun t _ => close_snd m ρ K c t).trans (bigSep_fupd _ _)
  have hr : iprop(recs m ρ K ∗ bigSep Finset.univ fun t => interp m ρ c (endR (zc c) t))
      ⊢ (|={Set.univ}=> bigSep Finset.univ fun t => semVal (rcvC c t) 0 : sProp 𝕄) :=
    (bigSep_with_persistent (R := recs m ρ K) fun t _ => close_rcv m ρ K c t).trans (bigSep_fupd _ _)
  refine (sep_mono_right (last_rights m ρ c)).trans ?_
  unfold memory Φ₁
  iintro ⟨#HK, HB, HS, HR, HO, HH⟩
  imod hb $$ [HB] with ZB
  · isplitr; · iexact HK
    iexact HB
  imod hs $$ [HS] with ZS
  · isplitr; · iexact HK
    iexact HS
  imod hr $$ [HR] with ZR
  · isplitr; · iexact HK
    iexact HR
  imodintro
  isplitr [HO]
  · isplitl [ZB]; · iexact ZB
    isplitl [ZS]; · iexact ZS
    isplitl [ZR]; · iexact ZR
    iexact HH
  iexact HO

end

/-! ## The body -/

theorem owe_end (c : Dev nD) : owed c (σ₁ (zc c)) = 0 :=
  owed_zero c fun r hr => by
    have h : ∀ z : Fin 4, ∀ r ∈ σ₁ z, (match r with | .btok _ => false | .tok _ => false | _ => true) = true := by decide +kernel
    have := h _ r hr
    cases r <;> first | rfl | cases this

abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (OUTc m ρ (zc c)))

theorem body_end (K : Dev nD × CI → ℕ) (c : Dev nD) {σ : List Res} (h : σ.Perm (σ₁ (zc c))) : St m ρ K c σ ⊢ (|={Set.univ}=> bodyPost m ρ c : sProp 𝕄) := by
  refine (St_perm m ρ K c h).trans ?_
  have hf := finish m ρ K c
  unfold St owesS bodyPost Dat.owesAt Pipeline.owesWithin xs
  rw [owe_end, show (dats m ρ 0 c).owed t0_0.succ = 0 from rfl]
  iintro ⟨#HK, ⟨%W, HO⟩, HX, HA⟩
  imod hf $$ [HA] with ⟨H1, H2⟩
  · isplitr; · iexact HK
    iexact HA
  imodintro
  isplitl [H1]; · iexact H1
  isplitl [HO]
  · iexists W
    isplitr; · ipureintro; exact fun _ _ => Or.inl trivial
    iexact HO
  isplitl [HX]
  · iexists _; isplitr; · (ipureintro; rfl)
    iexact HX
  iexists _; isplitr; · (ipureintro; rfl)
  iexact H2

theorem body_start (c : Dev nD) : bodyPre m ρ c ⊢ (iprop(∃ K, St m ρ K c (σ₀ (zc c))) : sProp 𝕄) := by
  have hr := first_rights m ρ c
  unfold bodyPre Φ₀ start St owesS Dat.owesAt Pipeline.owesWithin xs
  rw [show (dats m ρ 0 c).owed t0_0.castSucc = owed c (σ₀ (zc c)) from rfl]
  iintro ⟨⟨⟨⟨%K, HK, HL⟩, HC⟩, HH⟩, ⟨%W, %hW, HO⟩, ⟨%d0, %g0, %hg0, HX⟩, ⟨%d1, %g1, %hg1, HY⟩⟩
  have hx : g0 = xstg m ρ c := by rw [hg0]; unfold Dat.before; rw [if_pos (fetch0_0 t0_0)]; rfl
  subst hx
  iexists K
  isplitl [HK]; · iexact HK
  isplitl [HO]; · iexists W; iexact HO
  isplitl [HX]; · iexact HX
  iapply hr
  isplitl [HL]; · iexact HL
  isplitl [HC]; · iexact HC
  isplitl [HH]; · iexact HH
  iexists g1; iexact HY

theorem bind_perm (r : Option (List Res)) (σ : List Res) (h : r.bind (takeAll σ) = some []) : ∃ σ', r = some σ' ∧ σ'.Perm σ := by
  cases r with
  | none => rw [Option.bind_none] at h; cases h
  | some σ' =>
    rw [Option.bind_some] at h
    refine ⟨σ', rfl, ?_⟩
    have hp := takeAll_perm h
    rw [List.append_nil] at hp
    exact hp

/-- The plan runs from the first rights to the last. -/
theorem plan_end (z : Fin 4) : ∃ σ', run z (ops z) (σ₀ z) = some σ' ∧ σ'.Perm (σ₁ z) := bind_perm _ _ (plan_runs z)

/-- Whatever runs from the first rights to the last takes a device from its start to its end. -/
theorem sound_run (c : Dev nD) (P : Prog (TpuEff nD τ sig (Elt F) Λ₀ .tc) PUnit) (os : List Op) (σ' : List Res)
    (hP : ∀ K, Does m ρ K c os P fun _ => True) (h1 : run (zc c) os (σ₀ (zc c)) = some σ') (hp : σ'.Perm (σ₁ (zc c))) :
    bodyPre m ρ c ⊢ wpc c P (fun _ => bodyPost m ρ c) := by
  refine BI.Entails.trans ?_ (wp_fupd frame (wpE (defs₀ (F := F)) 𝒱₀ (c : Thread nD τ) none) Set.univ _ _)
  refine (body_start m ρ c).trans ?_
  iintro ⟨%K, H⟩
  have hd := hP K (σ₀ (zc c)) σ' (fun _ => iprop(|={Set.univ}=> bodyPost m ρ c)) h1 fun _ _ => body_end m ρ K c hp
  iapply hd $$ H

theorem sound_body (c : Dev nD) : bodyPre m ρ c
    ⊢ wpc c (cc0_body (F := F) A0 (Memref.isWhole_whole _) A1 (Memref.isWhole_whole _) A2 (Memref.isWhole_whole _) A3 (Memref.isWhole_whole _)
        cc0_scratch2 cc0_scratch3 cc0_scratch4 cc0_scratch5 cc0_scratch6 cc0_scratch7) (fun _ => bodyPost m ρ c) := by
  obtain ⟨σ', h1, hp⟩ := plan_end (zc c)
  exact sound_run m ρ c _ _ σ' (fun K => body_does) h1 hp

/-- The body takes each device from its start to its end. -/
theorem body_obligation (c : Dev nD) : BodyObligation (dats (F := F) m ρ 0 c) (defs₀ (F := F)) 𝒱₀ () Set.univ := fun t => by
  rw [fin_N0 t]
  rw [bigSep_W0, bigSep_W0]
  simp only [owns_full]
  exact sound_body m ρ c

end Cert.AllReduce

end
-- ==== Proof.Final.lean ====
/- The launch and the whole execution: it ends, with the contents named and every semaphore at zero. -/
module

public import proofs.«01_k».proof.Proof.Launch
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hc := creds (F := F) c
  unfold G' known start recs
  iintro ⟨-, Hlev, Hcr, -, ⟨%K, ⟨H1, H2⟩, HL⟩⟩
  ihave HC := hc $$ Hcr
  imodintro
  isplitl
  · isplitr [HC]
    · iexists K
      isplitr [HL]
      · isplitl [H1]; · iexact H1
        isplitl [H2]; · iexact H2
        iexact Hlev
      iexact HL
    iexact HC
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ heap
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, unscopedSems_eq]
  unfold Φ₁ heap
  iintro ⟨HB, HS, HR, HH⟩
  isplitl [HB]; · iexact HB
  isplitl [HS HR]
  · isplitl [HS] <;> iassumption
  iexact HH

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem L_of_ne (g : GSem nD τ sig) (h : g.1.2 ≠ .tc) : L g = ∅ := if_neg h

set_option maxRecDepth 8000 in
/-- From any memory with its counters at zero, whatever the floats are: every fair execution on the sixteen devices ends, with each
    device's arrays at the contents named by `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      have hf := fund_all m ρ
      unfold u₀
      iintro Hu
      ihave H := (ownU_pair _ _) $$ Hu
      icases H with ⟨HP, HX⟩
      imod hf $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Sum.lean ====
/- The value each device ends with is the reference's: the sum of the four blocks. -/
module

public import proofs.«01_k».proof.Proof.Final
public import proofs.«01_k».proof.Proof.Gen.ReferenceIdeal.Run
public import Idealize.ShloMosaic.Lib.Layout
public import Idealize.ShloMosaic.Lib.Pointwise.Reduce

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]
variable (m : (ℓ : Loc nD τ sig) → Buf (Elt F) ℓ) (ρ : Dev nD → PrngReg)

/-! ## The arrays, whole -/

theorem emb_in (t : Fin cfg0.N) (i : S8192x1024.Idx) : (win0_0.blk t).view.emb i = i := by
  funext a
  match a with
  | 0 => exact Fin.ext (by show 0 * 8192 + 1 * (i 0).val = (i 0).val; omega)
  | 1 => exact Fin.ext (by show 0 * 1024 + 1 * (i 1).val = (i 1).val; omega)
theorem emb_out (t : Fin cfg0.N) (i : S8192x1024.Idx) : (win0_1.blk t).view.emb i = i := by
  funext a
  match a with
  | 0 => exact Fin.ext (by show 0 * 8192 + 1 * (i 0).val = (i 0).val; omega)
  | 1 => exact Fin.ext (by show 0 * 1024 + 1 * (i 1).val = (i 1).val; omega)

theorem xstg_apply (c : Dev nD) (i : S8192x1024.Idx) : xstg m ρ c i = m ((c : Thread nD τ).loc main_arg0) i := by
  show m ((c : Thread nD τ).loc main_arg0) ((win0_0.blk (0 : Fin 1)).view.emb i) = _
  exact congrArg (m ((c : Thread nD τ).loc main_arg0)) (emb_in (0 : Fin 1) i)

theorem flushed_out (c : Dev nD) (t : Fin cfg0.N) :
    (dats m ρ 0 c).flushed 1 t = ((cfg0.win 1).blk t).view.read (Elt F) (OUTc m ρ (zc c)) := by
  funext i
  show OUTc m ρ (zc c) i = OUTc m ρ (zc c) ((win0_1.blk t).view.emb i)
  exact congrArg (OUTc m ρ (zc c)) (emb_out t i).symm

theorem covers (i : S8192x1024.Idx) : ∃ t : Fin cfg0.N, (cfg0.win 1).flush t = true ∧ i ∈ ((cfg0.win 1).blk t).view.set := by
  refine ⟨t0_0, flush0_1 _, ?_⟩
  have h : (win0_1.blk t0_0).view.emb i ∈ (win0_1.blk t0_0).view.set := Finset.mem_map_of_mem _ (Finset.mem_univ i)
  exact (emb_out t0_0 i) ▸ h

/-- The result array on each device. -/
theorem finalA_out (c : Dev nD) : finalA m ρ c 1 = OUTc m ρ (zc c) :=
  (dats m ρ 0 c).arrAt_eq_of_cover 1 (OUTc m ρ (zc c)) (fun t _ => flushed_out m ρ c t) covers

/-! ## The sums, ideally -/

section
variable (m : (ℓ : Loc nD τ sig) → Buf (Elt Ideal) ℓ)

theorem add_perm (a b c d : EReal) :
    a + (d + c + b) = a + b + c + d ∧ a + b + (d + c) = a + b + c + d ∧ a + b + c + d = a + b + c + d ∧ d + c + b + a = a + b + c + d := by
  refine ⟨?_, ?_, rfl, ?_⟩ <;> ac_rfl

theorem tot_ideal (z q : Fin 4) (j : ℕ) (i : S8192x1024.Idx) :
    tot m ρ z q j i = (xstg m ρ (dv q 0) i + xstg m ρ (dv q 1) i + xstg m ρ (dv q 2) i + xstg m ρ (dv q 3) i : EReal) := by
  obtain ⟨h1, h2, h3, h4⟩ := add_perm (xstg m ρ (dv q 0) i) (xstg m ρ (dv q 1) i) (xstg m ρ (dv q 2) i) (xstg m ρ (dv q 3) i)
  unfold tot
  by_cases hj : j < 2
  · rw [if_pos hj]
    match z with
    | 0 => exact h1
    | 1 => exact h2
    | 2 => exact h3
    | 3 => exact h3
  · rw [if_neg hj]
    match z with
    | 0 => exact h4
    | 1 => exact h1
    | 2 => exact h2
    | 3 => exact h3

theorem out_ideal (z : Fin 4) (i : S8192x1024.Idx) : ∃ q : Fin 4, OUTc m ρ z i = (∑ k : Fin 4, xstg m ρ (dv q k) i : EReal) :=
  ⟨_, (tot_ideal ρ m z _ _ i).trans (Fin.sum_univ_four fun k => (xstg m ρ (dv _ k) i : EReal)).symm⟩

end

/-! ## The reference -/

set_option backward.proofsInPublic true in
/-- Row `i` of block `k` of the whole operand. -/
def rowOf (k : Fin 4) (i : S8192x1024.Idx) : Cert.ReferenceIdeal.S32768x1024.Idx :=
  ValueIdx.ix2 (⟨k.val * 8192 + (i 0).val, by have h : (i 0).val < 8192 := (i 0).isLt; omega⟩ : Fin 32768) (⟨(i 1).val, (i 1).isLt⟩ : Fin 1024)

theorem mesh_at : ∀ c : Dev nD, ((Layout.meshBlock [2, 2, 4] (![[2], []] : Fin 2 → List ℕ) c) 0).val = (zc c).val
    ∧ ((Layout.meshBlock [2, 2, 4] (![[2], []] : Fin 2 → List ℕ) c) 1).val = 0 := by decide +kernel

/-- A device's block of the whole operand, row by row. -/
theorem block_at {α : Type} (X : Cert.ReferenceIdeal.S32768x1024.Idx → α) (c : Dev nD) (i : S8192x1024.Idx) :
    (Layout.blockN ⟨2, ![8192, 1024]⟩ ⟨2, ![32768, 1024]⟩ (Layout.meshBlock [2, 2, 4] ![[2], []] c) X) i = X (rowOf (zc c) i) := by
  refine congrArg X ?_
  funext a
  match a with
  | 0 => exact Fin.ext (by
      rw [Layout.TilesN.idx_val]
      show ((Layout.meshBlock [2, 2, 4] (![[2], []] : Fin 2 → List ℕ) c) 0).val * 8192 + (i 0).val = (zc c).val * 8192 + (i 0).val
      rw [(mesh_at c).1])
  | 1 => exact Fin.ext (by
      rw [Layout.TilesN.idx_val]
      show ((Layout.meshBlock [2, 2, 4] (![[2], []] : Fin 2 → List ℕ) c) 1).val * 1024 + (i 1).val = (i 1).val
      rw [(mesh_at c).2]; omega)

/-- The reference: the sum of the four blocks of its operand. -/
def refSum (X : Cert.ReferenceIdeal.S32768x1024.Idx → EReal) : S8192x1024.Idx → EReal := fun i => ∑ k : Fin 4, X (rowOf k i)

theorem cast_rows {α : Type} {n a b N : ℕ} (x : (⟨2, ![N, b]⟩ : Shape).Idx → α) (h : (⟨2, ![N, b]⟩ : Shape).ShapeCasts ⟨3, ![n, a, b]⟩)
    (k : Fin n) (i : Fin a) (j : Fin b) (hr : k.val * a + i.val < N) :
    shapeCast ⟨3, ![n, a, b]⟩ x h (ValueIdx.ix3 k i j) = x (ValueIdx.ix2 ⟨k.val * a + i.val, hr⟩ j) :=
  shapeCast_apply x h _ _ (by
    rw [Shape.rowMajor_val_three, Shape.rowMajor_val_two]; rfl)

theorem reference_value (X : FVec Ideal Cert.ReferenceIdeal.S32768x1024 .bf16) :
    truncf .bf16 (Host.reduceAdd (extf .f32 (shapeCast Cert.ReferenceIdeal.S4x8192x1024 X Cert.ReferenceIdeal.Gen.facts.shapeCasts_S32768x1024_S4x8192x1024)
      Cert.ReferenceIdeal.Gen.facts.bitsLt_bf16_f32) (constant Cert.ReferenceIdeal.S_ .f32 0x00000000#32)
      Cert.ReferenceIdeal.Gen.facts.reducesTo_S4x8192x1024_S8192x1024_d0 Cert.ReferenceIdeal.Gen.facts.h_S_) Cert.ReferenceIdeal.Gen.facts.bitsLt_bf16_f32 = refSum X := by
  funext i
  have e (v : (⟨3, ![4, 8192, 1024]⟩ : Shape).Idx → EReal) (w : EReal) := Ideal.hostReduceAdd_r3_a0 (n0 := 4) (n1 := 8192) (n2 := 1024) (t := S8192x1024)
    Cert.ReferenceIdeal.Gen.facts.reducesTo_S4x8192x1024_S8192x1024_d0 v w i
  refine Eq.trans (b := Ideal.hostReduceAdd Cert.ReferenceIdeal.Gen.facts.reducesTo_S4x8192x1024_S8192x1024_d0
    (shapeCast Cert.ReferenceIdeal.S4x8192x1024 (X : _ → EReal) Cert.ReferenceIdeal.Gen.facts.shapeCasts_S32768x1024_S4x8192x1024)
    (constant (F := Ideal) Cert.ReferenceIdeal.S_ .f32 0x00000000#32 (Shape.Idx.first Cert.ReferenceIdeal.Gen.facts.h_S_) : EReal) i) rfl ?_
  refine (e _ _).trans ?_
  have h0 : (constant (F := Ideal) Cert.ReferenceIdeal.S_ .f32 0x00000000#32 (Shape.Idx.first Cert.ReferenceIdeal.Gen.facts.h_S_) : EReal) = 0 := Ideal.ofBits_zero_f32
  refine (congrArg₂ (· + ·) h0 (Finset.sum_congr rfl fun k _ => ?_)).trans (zero_add _)
  have hk : k.val * 8192 + (i 0).val < 32768 := by have h : (i 0).val < 8192 := (i 0).isLt; omega
  have e := cast_rows (n := 4) (a := 8192) (b := 1024) (N := 32768) X Cert.ReferenceIdeal.Gen.facts.shapeCasts_S32768x1024_S4x8192x1024 k
    (⟨(i 0).val, (i 0).isLt⟩ : Fin 8192) (⟨(i 1).val, (i 1).isLt⟩ : Fin 1024) hk
  exact e

section
variable (m : (ℓ : Loc nD τ sig) → Buf (Elt Ideal) ℓ)

/-- With each device holding its block of `X`, every device ends with the sum of all four. -/
theorem out_value (X : FVec Ideal Cert.ReferenceIdeal.S32768x1024 .bf16)
    (h : ∀ c : Dev nD, m ((c : Thread nD τ).loc main_arg0)
      = Layout.blockN ⟨2, ![8192, 1024]⟩ ⟨2, ![32768, 1024]⟩ (Layout.meshBlock [2, 2, 4] ![[2], []] c) X) (c : Dev nD) :
    OUTc m ρ (zc c) = refSum X := by
  funext i
  obtain ⟨q, e⟩ := out_ideal ρ m (zc c) i
  refine e.trans (Finset.sum_congr rfl fun k _ => ?_)
  rw [xstg_apply, h (dv q k), block_at, zc_dv]

end

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Sum
public import Idealize.ShloMosaic.Adequacy
public import Idealize.ShloMosaic.Init

@[expose] public section

noncomputable section

namespace Cert.Proof

open Idealize.ShloMosaic Idealize.SL.Sem

/-- The two printings of the kernel call the same bodies. -/
theorem table₀ : @Cert.Kernel.defs₀ Bits _ _ = @Cert.KernelIdeal.defs₀ Bits _ _ := by
  funext k
  match k with
  | .tc =>
    funext l a
    match l, a with
    | 0, (t, s) => rfl
    | ⟨_ + 1, h⟩, _ => exact absurd h (Nat.not_lt.2 (Nat.le_add_left _ _))
  | .scScalar _ => rfl
  | .scVector _ _ => rfl

/-- So they have the same table of bodies. -/
theorem table : @Cert.Kernel.defs Bits _ _ = @Cert.KernelIdeal.defs Bits _ _ :=
  congrArg (Pipeline.defs (Cert.KernelIdeal.pcfgs (F := Bits))) table₀

/-- The kernel ends, leaves its operand as it was and every semaphore at zero, with its floats words. -/
theorem frame_kernel : Cert.quiescent_Kernel := fun m ρ _ => by
  rw [table]
  exact (θ_run Cert.KernelIdeal.defs _ _).mono (fun _ h => ⟨fun c => (h.1 c 0).trans (AllReduce.finalA_x m ρ c), h.2⟩)
    (AllReduce.run_main (F := Bits) m ρ)

/-- The same with its floats extended reals. -/
theorem frame_kernelIdeal : Cert.quiescent_KernelIdeal := fun m ρ _ =>
  (θ_run Cert.KernelIdeal.defs _ _).mono (fun _ h => ⟨fun c => (h.1 c 0).trans (AllReduce.finalA_x m ρ c), h.2⟩)
    (AllReduce.run_main (F := Ideal) m ρ)

/-- The reference ends, leaves its operand as it was, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's whole result: the sum of the four blocks of the operand. -/
theorem value : Cert.algebraic_KernelIdeal_ReferenceIdeal := by
  intro m ρ m' ρ' _ hagree
  let X : FVec Ideal Cert.ReferenceIdeal.S32768x1024 .bf16 :=
    m' (((0 : Dev Cert.ReferenceIdeal.nD).tc : Thread _ Cert.ReferenceIdeal.τ).loc Cert.ReferenceIdeal.main_arg0)
  refine ⟨AllReduce.refSum X, ?_, ?_⟩
  · refine (θ_run Cert.KernelIdeal.defs _ _).mono (fun _ h c => ⟨(h.1 c 1).trans ?_, (h.1 c 0).trans (AllReduce.finalA_x m ρ c)⟩)
      (AllReduce.run_main (F := Ideal) m ρ)
    exact (AllReduce.finalA_out m ρ c).trans (AllReduce.out_value ρ m X hagree c)
  · exact (θ_run Cert.ReferenceIdeal.defs _ _).mono (fun _ h => ⟨(h 0).1.trans (AllReduce.reference_value X), (h 0).2⟩)
      (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
